-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_in_range [hPre_scores_in_range : Cert.Pre_scores_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_in_range [hPre_scores_in_range : Cert.Pre_scores_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_in_range [hKernelIdeal : Cert.KernelIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_in_range [hReferenceIdeal : Cert.ReferenceIdeal.Facts] [hPre_scores_in_range : Cert.Pre_scores_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_in_range [hKernelIdeal : Cert.KernelIdeal.Facts] [hReferenceIdeal : Cert.ReferenceIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_in_range : Cert.Pre_scores_in_range.Facts),
    quiescent_Kernel (hKernel := hKernel)
    ∧ quiescent_KernelIdeal (hKernelIdeal := hKernelIdeal)
    ∧ quiescent_KernelIdeal_pre_scores_in_range (hKernelIdeal := hKernelIdeal) (hPre_scores_in_range := hPre_scores_in_range)
    ∧ quiescent_ReferenceIdeal (hReferenceIdeal := hReferenceIdeal)
    ∧ quiescent_ReferenceIdeal_pre_scores_in_range (hReferenceIdeal := hReferenceIdeal) (hPre_scores_in_range := hPre_scores_in_range)
    ∧ preserves_Kernel_KernelIdeal
    ∧ algebraic_KernelIdeal_ReferenceIdeal_pre_scores_in_range (hKernelIdeal := hKernelIdeal) (hReferenceIdeal := hReferenceIdeal) (hPre_scores_in_range := hPre_scores_in_range)
-- ==== Pre_scores_in_range.lean ====
abbrev S512x64x768 : Shape := ⟨3, ![512, 64, 768]⟩
abbrev S512x64x1 : Shape := ⟨3, ![512, 64, 1]⟩
abbrev S512x64 : Shape := ⟨2, ![512, 64]⟩
abbrev S1024x768 : Shape := ⟨2, ![1024, 768]⟩
abbrev S1024 : Shape := ⟨1, ![1024]⟩
abbrev S768x1024 : Shape := ⟨2, ![768, 1024]⟩
abbrev S512x64x1024 : Shape := ⟨3, ![512, 64, 1024]⟩
abbrev S1x1x1024 : Shape := ⟨3, ![1, 1, 1024]⟩
abbrev S512x64x32x32 : Shape := ⟨4, ![512, 64, 32, 32]⟩
abbrev S_ : Shape := ⟨0, ![]⟩
abbrev S512x64x32 : Shape := ⟨3, ![512, 64, 32]⟩
abbrev S512x64x32x1 : Shape := ⟨4, ![512, 64, 32, 1]⟩

class Facts : Prop where
  transposes_S1024x768_S768x1024_1_0 : S1024x768.Transposes [1, 0] S768x1024
  bcast_S1024_S1x1x1024_2 : S1024.BroadcastsInDim S1x1x1024 (![2] : Fin 1 → Fin S1x1x1024.rank)
  bcast_S1x1x1024_S512x64x1024_0_1_2 : S1x1x1024.BroadcastsInDim S512x64x1024 (![0, 1, 2] : Fin 3 → Fin S512x64x1024.rank)
  shapeCasts_S512x64x1024_S512x64x32x32 : S512x64x1024.ShapeCasts S512x64x32x32
  reducesTo_S512x64x32x32_S512x64x32_d3 : S512x64x32x32.ReducesTo [3] S512x64x32
  h_S_ : 0 < S_.numel
  reducesTo_S512x64x32_S512x64_d2 : S512x64x32.ReducesTo [2] S512x64
  bcast_S512x64_S512x64x1_0_1 : S512x64.BroadcastsInDim S512x64x1 (![0, 1] : Fin 2 → Fin S512x64x1.rank)
  bcast_S_S512x64x768 : S_.BroadcastsInDim S512x64x768 (![] : Fin 0 → Fin S512x64x768.rank)
  reducesTo_S512x64x768_S_d0_1_2 : S512x64x768.ReducesTo [0, 1, 2] S_
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S512x64x1 : S_.BroadcastsInDim S512x64x1 (![] : Fin 0 → Fin S512x64x1.rank)
  reducesTo_S512x64x1_S_d0_1_2 : S512x64x1.ReducesTo [0, 1, 2] S_
  bcast_S512x64x1_S512x64x32_0_1_2 : S512x64x1.BroadcastsInDim S512x64x32 (![0, 1, 2] : Fin 3 → Fin S512x64x32.rank)
  bcast_S_S512x64x32 : S_.BroadcastsInDim S512x64x32 (![] : Fin 0 → Fin S512x64x32.rank)
  reducesTo_S512x64x32_S_d0_1_2 : S512x64x32.ReducesTo [0, 1, 2] S_
  slices_S512x64x32x32_S512x64x32x1_0_0_0_31 : S512x64x32x32.Slices ![0, 0, 0, 31] S512x64x32x1
  shapeCasts_S512x64x32x1_S512x64x32 : S512x64x32x1.ShapeCasts S512x64x32
  dot_S512x64x768_S768x1024_S512x64x1024_2_0_01_1_n_n_wf : DotDims.WF S512x64x768 S768x1024 S512x64x1024 [2] [0] [0, 1] [1] [] []

variable [Facts]

def dot_S512x64x768_S768x1024_S512x64x1024_2_0_01_1_n_n : DotDims S512x64x768 S768x1024 S512x64x1024 where
  lhsContracting := [2]
  rhsContracting := [0]
  lhsNonContracting := [0, 1]
  rhsNonContracting := [1]
  lhsBatch := []
  rhsBatch := []
  wf := dot_S512x64x768_S768x1024_S512x64x1024_2_0_01_1_n_n_wf
def fn_part2 {F : FTy → Type} [FloatOps F] (main_v5 : FVec F S512x64x32x32 .f32) (main_v8 : FVec F S512x64x1 .f32) (main_v29 : IVec S_ 1) (main_v34 : IVec S_ 1) : IVec S_ 1 :=
  let main_v35 : IVec S_ 1 := andi main_v29 main_v34
  let main_v36 : FVec F S512x64x32x1 .f32 := (extractStridedSlice S512x64x32x1 ![0, 0, 0, 31] · slices_S512x64x32x32_S512x64x32x1_0_0_0_31) main_v5
  let main_v37 : FVec F S512x64x32 .f32 := shapeCast S512x64x32 main_v36 shapeCasts_S512x64x32x1_S512x64x32
  let main_v38 : FVec F S512x64x32 .f32 := broadcastInDim S512x64x32 ![0, 1, 2] bcast_S512x64x1_S512x64x32_0_1_2 main_v8
  let main_v39 : FVec F S512x64x32 .f32 := subf main_v38 main_v37
  let main_cst_11 : FVec F S_ .f32 := constant S_ .f32 0x42A00000#32
  let main_v40 : FVec F S512x64x32 .f32 := broadcastInDim S512x64x32 ![] bcast_S_S512x64x32 main_cst_11
  let main_v41 : IVec S512x64x32 1 := cmpf .ole main_v39 main_v40
  let main_c_12 : IVec S_ 1 := constantI S_ 1 1#1
  let main_v42 : IVec S_ 1 := (fun x v => Host.reduce IntOp.andi x v reducesTo_S512x64x32_S_d0_1_2 h_S_) main_v41 main_c_12
  let main_v43 : IVec S_ 1 := andi main_v35 main_v42
  main_v43

def fn_part1 {F : FTy → Type} [FloatOps F] (main_arg1 : IVec S512x64x1 32) (main_arg4 : FVec F S1024 .f32) (main_v5 : FVec F S512x64x32x32 .f32) (main_v6 : FVec F S512x64x32 .f32) (main_v8 : FVec F S512x64x1 .f32) (main_v17 : IVec S_ 1) : IVec S_ 1 :=
  let main_v18 : FVec F S1024 .f32 := Host.absf main_arg4
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_c_5 : IVec S_ 1 := constantI S_ 1 1#1
  let main_v21 : IVec S_ 1 := (fun x v => Host.reduce IntOp.andi x v reducesTo_S1024_S_d0 h_S_) main_v20 main_c_5
  let main_v22 : IVec S_ 1 := andi main_v17 main_v21
  let main_c_6 : IVec S_ 32 := constantI S_ 32 0#32
  let main_v23 : IVec S512x64x1 32 := broadcastInDim S512x64x1 ![] bcast_S_S512x64x1 main_c_6
  let main_v24 : IVec S512x64x1 1 := cmpi .sge main_arg1 main_v23
  let main_c_7 : IVec S_ 32 := constantI S_ 32 1024#32
  let main_v25 : IVec S512x64x1 32 := broadcastInDim S512x64x1 ![] bcast_S_S512x64x1 main_c_7
  let main_v26 : IVec S512x64x1 1 := cmpi .slt main_arg1 main_v25
  let main_v27 : IVec S512x64x1 1 := andi main_v24 main_v26
  let main_c_8 : IVec S_ 1 := constantI S_ 1 1#1
  let main_v28 : IVec S_ 1 := (fun x v => Host.reduce IntOp.andi x v reducesTo_S512x64x1_S_d0_1_2 h_S_) main_v27 main_c_8
  let main_v29 : IVec S_ 1 := andi main_v22 main_v28
  let main_v30 : FVec F S512x64x32 .f32 := broadcastInDim S512x64x32 ![0, 1, 2] bcast_S512x64x1_S512x64x32_0_1_2 main_v8
  let main_v31 : FVec F S512x64x32 .f32 := subf main_v30 main_v6
  let main_cst_9 : FVec F S_ .f32 := constant S_ .f32 0x40A00000#32
  let main_v32 : FVec F S512x64x32 .f32 := broadcastInDim S512x64x32 ![] bcast_S_S512x64x32 main_cst_9
  let main_v33 : IVec S512x64x32 1 := cmpf .ole main_v31 main_v32
  let main_c_10 : IVec S_ 1 := constantI S_ 1 1#1
  let main_v34 : IVec S_ 1 := (fun x v => Host.reduce IntOp.andi x v reducesTo_S512x64x32_S_d0_1_2 h_S_) main_v33 main_c_10
  fn_part2 (F := F) main_v5 main_v8 main_v29 main_v34

def fn {F : FTy → Type} [FloatOps F] (main_arg0 : FVec F S512x64x768 .f32) (main_arg1 : IVec S512x64x1 32) (main_arg2 : IVec S512x64 1) (main_arg3 : FVec F S1024x768 .f32) (main_arg4 : FVec F S1024 .f32) : IVec S_ 1 :=
  let main_v0 : FVec F S768x1024 .f32 := (transpose S768x1024 [1, 0] · transposes_S1024x768_S768x1024_1_0) main_arg3
  let main_v1 : FVec F S512x64x1024 .f32 := (fun l r => Host.dotGeneral dot_S512x64x768_S768x1024_S512x64x1024_2_0_01_1_n_n none l r) main_arg0 main_v0
  let main_v2 : FVec F S1x1x1024 .f32 := broadcastInDim S1x1x1024 ![2] bcast_S1024_S1x1x1024_2 main_arg4
  let main_v3 : FVec F S512x64x1024 .f32 := broadcastInDim S512x64x1024 ![0, 1, 2] bcast_S1x1x1024_S512x64x1024_0_1_2 main_v2
  let main_v4 : FVec F S512x64x1024 .f32 := addf main_v1 main_v3
  let main_v5 : FVec F S512x64x32x32 .f32 := shapeCast S512x64x32x32 main_v4 shapeCasts_S512x64x1024_S512x64x32x32
  let main_cst : FVec F S_ .f32 := constant S_ .f32 0xFF800000#32
  let main_v6 : FVec F S512x64x32 .f32 := (fun x v => Host.reduce FloatOps.maximumf x v reducesTo_S512x64x32x32_S512x64x32_d3 h_S_) main_v5 main_cst
  let main_cst_0 : FVec F S_ .f32 := constant S_ .f32 0xFF800000#32
  let main_v7 : FVec F S512x64 .f32 := (fun x v => Host.reduce FloatOps.maximumf x v reducesTo_S512x64x32_S512x64_d2 h_S_) main_v6 main_cst_0
  let main_v8 : FVec F S512x64x1 .f32 := broadcastInDim S512x64x1 ![0, 1] bcast_S512x64_S512x64x1_0_1 main_v7
  let main_v9 : FVec F S512x64x768 .f32 := Host.absf main_arg0
  let main_cst_1 : FVec F S_ .f32 := constant S_ .f32 0x7F800000#32
  let main_v10 : FVec F S512x64x768 .f32 := broadcastInDim S512x64x768 ![] bcast_S_S512x64x768 main_cst_1
  let main_v11 : IVec S512x64x768 1 := cmpf .olt main_v9 main_v10
  let main_c : IVec S_ 1 := constantI S_ 1 1#1
  let main_v12 : IVec S_ 1 := (fun x v => Host.reduce IntOp.andi x v reducesTo_S512x64x768_S_d0_1_2 h_S_) main_v11 main_c
  let main_v13 : FVec F S1024x768 .f32 := Host.absf main_arg3
  let main_cst_2 : FVec F S_ .f32 := constant S_ .f32 0x7F800000#32
  let main_v14 : FVec F S1024x768 .f32 := broadcastInDim S1024x768 ![] bcast_S_S1024x768 main_cst_2
  let main_v15 : IVec S1024x768 1 := cmpf .olt main_v13 main_v14
  let main_c_3 : IVec S_ 1 := constantI S_ 1 1#1
  let main_v16 : IVec S_ 1 := (fun x v => Host.reduce IntOp.andi x v reducesTo_S1024x768_S_d0_1 h_S_) main_v15 main_c_3
  let main_v17 : IVec S_ 1 := andi main_v12 main_v16
  fn_part1 (F := F) main_arg1 main_arg4 main_v5 main_v6 main_v8 main_v17
-- ==== Kernel.lean ====
abbrev S512x64x768 : Shape := ⟨3, ![512, 64, 768]⟩
abbrev S512x64x1 : Shape := ⟨3, ![512, 64, 1]⟩
abbrev S512x64 : Shape := ⟨2, ![512, 64]⟩
abbrev S1024x768 : Shape := ⟨2, ![1024, 768]⟩
abbrev S1024 : Shape := ⟨1, ![1024]⟩
abbrev S32768x768 : Shape := ⟨2, ![32768, 768]⟩
abbrev S768x1024 : Shape := ⟨2, ![768, 1024]⟩
abbrev S1x1024 : Shape := ⟨2, ![1, 1024]⟩
abbrev S64x8x64 : Shape := ⟨3, ![64, 8, 64]⟩
abbrev S64x64x8 : Shape := ⟨3, ![64, 64, 8]⟩
abbrev S_ : Shape := ⟨0, ![]⟩
abbrev S32 : Shape := ⟨1, ![32]⟩
abbrev S32x1 : Shape := ⟨2, ![32, 1]⟩
abbrev S32x1024 : Shape := ⟨2, ![32, 1024]⟩
abbrev S1024x1 : Shape := ⟨2, ![1024, 1]⟩
abbrev S1x32 : Shape := ⟨2, ![1, 32]⟩
abbrev S1024x32 : Shape := ⟨2, ![1024, 32]⟩
abbrev S1x1 : Shape := ⟨2, ![1, 1]⟩
abbrev S512x768 : Shape := ⟨2, ![512, 768]⟩
abbrev S1x64x8 : Shape := ⟨3, ![1, 64, 8]⟩
abbrev S512x1024 : Shape := ⟨2, ![512, 1024]⟩
abbrev S64x8 : Shape := ⟨2, ![64, 8]⟩
abbrev S64x32 : Shape := ⟨2, ![64, 32]⟩
abbrev S64x1024 : Shape := ⟨2, ![64, 1024]⟩
abbrev S64x1 : Shape := ⟨2, ![64, 1]⟩
abbrev S1x64x1024 : Shape := ⟨3, ![1, 64, 1024]⟩
abbrev S1 : Shape := ⟨1, ![1]⟩
abbrev S1x1x1 : Shape := ⟨3, ![1, 1, 1]⟩
abbrev S64 : Shape := ⟨1, ![64]⟩
abbrev S16x32 : Shape := ⟨2, ![16, 32]⟩
abbrev S16x1024 : Shape := ⟨2, ![16, 1024]⟩
abbrev S16x1 : Shape := ⟨2, ![16, 1]⟩
abbrev S16 : Shape := ⟨1, ![16]⟩
abbrev S1x64x1 : Shape := ⟨3, ![1, 64, 1]⟩

abbrev nBuf : Space → Nat
  | .hbm => 72
  | .vmem => 18
  | .smem => 2
  | _ => 0

abbrev bufTy : (tb : Table) → Fin (tcTables nBuf tb) → BufTy
  | .hbm, ⟨0, _⟩ => ⟨S512x64x768, .f32⟩
  | .hbm, ⟨1, _⟩ => ⟨S512x64x1, .i32⟩
  | .hbm, ⟨2, _⟩ => ⟨S512x64, .i1⟩
  | .hbm, ⟨3, _⟩ => ⟨S1024x768, .f32⟩
  | .hbm, ⟨4, _⟩ => ⟨S1024, .f32⟩
  | .hbm, ⟨5, _⟩ => ⟨S32768x768, .f32⟩
  | .hbm, ⟨6, _⟩ => ⟨S768x1024, .f32⟩
  | .hbm, ⟨7, _⟩ => ⟨S768x1024, .bf16⟩
  | .hbm, ⟨8, _⟩ => ⟨S1x1024, .f32⟩
  | .hbm, ⟨9, _⟩ => ⟨S512x64, .i32⟩
  | .hbm, ⟨10, _⟩ => ⟨S64x8x64, .i32⟩
  | .hbm, ⟨11, _⟩ => ⟨S64x64x8, .i32⟩
  | .hbm, ⟨12, _⟩ => ⟨S512x64, .f32⟩
  | .hbm, ⟨13, _⟩ => ⟨S64x8x64, .f32⟩
  | .hbm, ⟨14, _⟩ => ⟨S64x64x8, .f32⟩
  | .hbm, ⟨15, _⟩ => ⟨S1024, .i32⟩
  | .hbm, ⟨16, _⟩ => ⟨S1x1024, .i32⟩
  | .hbm, ⟨17, _⟩ => ⟨S_, .i32⟩
  | .hbm, ⟨18, _⟩ => ⟨S_, .i32⟩
  | .hbm, ⟨19, _⟩ => ⟨S1x1024, .i32⟩
  | .hbm, ⟨20, _⟩ => ⟨S1x1024, .i32⟩
  | .hbm, ⟨21, _⟩ => ⟨S1x1024, .i32⟩
  | .hbm, ⟨22, _⟩ => ⟨S_, .i32⟩
  | .hbm, ⟨23, _⟩ => ⟨S1x1024, .i32⟩
  | .hbm, ⟨24, _⟩ => ⟨S1x1024, .i1⟩
  | .hbm, ⟨25, _⟩ => ⟨S1x1024, .i32⟩
  | .hbm, ⟨26, _⟩ => ⟨S1x1024, .i32⟩
  | .hbm, ⟨27, _⟩ => ⟨S_, .i32⟩
  | .hbm, ⟨28, _⟩ => ⟨S1x1024, .i32⟩
  | .hbm, ⟨29, _⟩ => ⟨S1x1024, .i1⟩
  | .hbm, ⟨30, _⟩ => ⟨S1x1024, .i1⟩
  | .hbm, ⟨31, _⟩ => ⟨S_, .i32⟩
  | .hbm, ⟨32, _⟩ => ⟨S1x1024, .i32⟩
  | .hbm, ⟨33, _⟩ => ⟨S1x1024, .i32⟩
  | .hbm, ⟨34, _⟩ => ⟨S1x1024, .i32⟩
  | .hbm, ⟨35, _⟩ => ⟨S32, .i32⟩
  | .hbm, ⟨36, _⟩ => ⟨S32x1, .i32⟩
  | .hbm, ⟨37, _⟩ => ⟨S32x1024, .i32⟩
  | .hbm, ⟨38, _⟩ => ⟨S32x1024, .i32⟩
  | .hbm, ⟨39, _⟩ => ⟨S32x1024, .i1⟩
  | .hbm, ⟨40, _⟩ => ⟨S32x1024, .f32⟩
  | .hbm, ⟨41, _⟩ => ⟨S1024x1, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S1024x1, .i32⟩
  | .hbm, ⟨49, _⟩ => ⟨S1024x1, .i32⟩
  | .hbm, ⟨50, _⟩ => ⟨S_, .i32⟩
  | .hbm, ⟨51, _⟩ => ⟨S1024x1, .i32⟩
  | .hbm, ⟨52, _⟩ => ⟨S1024x1, .i1⟩
  | .hbm, ⟨53, _⟩ => ⟨S_, .i32⟩
  | .hbm, ⟨54, _⟩ => ⟨S1024x1, .i32⟩
  | .hbm, ⟨55, _⟩ => ⟨S1024x1, .i1⟩
  | .hbm, ⟨56, _⟩ => ⟨S_, .i32⟩
  | .hbm, ⟨57, _⟩ => ⟨S_, .i1⟩
  | .hbm, ⟨58, _⟩ => ⟨S1024x1, .i1⟩
  | .hbm, ⟨59, _⟩ => ⟨S1024x1, .i1⟩
  | .hbm, ⟨60, _⟩ => ⟨S1024x1, .i1⟩
  | .hbm, ⟨61, _⟩ => ⟨S1024x1, .i32⟩
  | .hbm, ⟨62, _⟩ => ⟨S1024x1, .i32⟩
  | .hbm, ⟨63, _⟩ => ⟨S1024x1, .i32⟩
  | .hbm, ⟨64, _⟩ => ⟨S32, .i32⟩
  | .hbm, ⟨65, _⟩ => ⟨S1x32, .i32⟩
  | .hbm, ⟨66, _⟩ => ⟨S1024x32, .i32⟩
  | .hbm, ⟨67, _⟩ => ⟨S1024x32, .i32⟩
  | .hbm, ⟨68, _⟩ => ⟨S1024x32, .i1⟩
  | .hbm, ⟨69, _⟩ => ⟨S1024x32, .f32⟩
  | .hbm, ⟨70, _⟩ => ⟨S1x1, .f32⟩
  | .hbm, ⟨71, _⟩ => ⟨S_, .f32⟩
  | .local _ .vmem, ⟨0, _⟩ => ⟨S512x768, .f32⟩
  | .local _ .vmem, ⟨1, _⟩ => ⟨S512x768, .f32⟩
  | .local _ .vmem, ⟨2, _⟩ => ⟨S1x64x8, .i32⟩
  | .local _ .vmem, ⟨3, _⟩ => ⟨S1x64x8, .i32⟩
  | .local _ .vmem, ⟨4, _⟩ => ⟨S1x64x8, .f32⟩
  | .local _ .vmem, ⟨5, _⟩ => ⟨S1x64x8, .f32⟩
  | .local _ .vmem, ⟨6, _⟩ => ⟨S1x64x8, .f32⟩
  | .local _ .vmem, ⟨7, _⟩ => ⟨S1x64x8, .f32⟩
  | .local _ .vmem, ⟨8, _⟩ => ⟨S768x1024, .bf16⟩
  | .local _ .vmem, ⟨9, _⟩ => ⟨S1x1024, .f32⟩
  | .local _ .vmem, ⟨10, _⟩ => ⟨S32x1024, .f32⟩
  | .local _ .vmem, ⟨11, _⟩ => ⟨S1024x32, .f32⟩
  | .local _ .vmem, ⟨12, _⟩ => ⟨S512x1024, .f32⟩
  | .local _ .vmem, ⟨13, _⟩ => ⟨S512x1024, .f32⟩
  | .local _ .vmem, ⟨14, _⟩ => ⟨S64x8, .f32⟩
  | .local _ .vmem, ⟨15, _⟩ => ⟨S64x8, .f32⟩
  | .local _ .vmem, ⟨16, _⟩ => ⟨S64x32, .f32⟩
  | .local _ .vmem, ⟨17, _⟩ => ⟨S64x32, .f32⟩
  | .local _ .smem, ⟨0, _⟩ => ⟨S1x1, .f32⟩
  | .local _ .smem, ⟨1, _⟩ => ⟨S1x1, .f32⟩
  | _, _ => ⟨S512x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_0 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg8_0 : Ref sig .tc := ⟨.smem, 0, rfl⟩
abbrev cc0_scratch6 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c64_i32 : BitVec 32 := 64#32
  let v7 : BitVec 1 := Scalar.cmpi .eq arg0 c64_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S512x64x768 : Shape := ⟨3, ![512, 64, 768]⟩
abbrev S512x64x1 : Shape := ⟨3, ![512, 64, 1]⟩
abbrev S512x64 : Shape := ⟨2, ![512, 64]⟩
abbrev S1024x768 : Shape := ⟨2, ![1024, 768]⟩
abbrev S1024 : Shape := ⟨1, ![1024]⟩
abbrev S768x1024 : Shape := ⟨2, ![768, 1024]⟩
abbrev S512x64x1024 : Shape := ⟨3, ![512, 64, 1024]⟩
abbrev S1x1x1024 : Shape := ⟨3, ![1, 1, 1024]⟩
abbrev S512x64x32x32 : Shape := ⟨4, ![512, 64, 32, 32]⟩
abbrev S_ : Shape := ⟨0, ![]⟩
abbrev S512x64x1x1 : Shape := ⟨4, ![512, 64, 1, 1]⟩
abbrev S1 : Shape := ⟨1, ![1]⟩
abbrev S1x1x1x1 : Shape := ⟨4, ![1, 1, 1, 1]⟩
abbrev S1x64x32x32 : Shape := ⟨4, ![1, 64, 32, 32]⟩
abbrev S64x32x32 : Shape := ⟨3, ![64, 32, 32]⟩
abbrev S64x1x32 : Shape := ⟨3, ![64, 1, 32]⟩
abbrev S64x32 : Shape := ⟨2, ![64, 32]⟩
abbrev S511x64x32x32 : Shape := ⟨4, ![511, 64, 32, 32]⟩
abbrev S511x64 : Shape := ⟨2, ![511, 64]⟩
abbrev S1x64 : Shape := ⟨2, ![1, 64]⟩
abbrev S64 : Shape := ⟨1, ![64]⟩
abbrev S64x32x1 : Shape := ⟨3, ![64, 32, 1]⟩
abbrev S64x1 : Shape := ⟨2, ![64, 1]⟩

abbrev nBuf : Space → Nat
  | .hbm => 87
  | .vmem => 0
  | .smem => 0
  | _ => 0

abbrev bufTy : (tb : Table) → Fin (tcTables nBuf tb) → BufTy
  | .hbm, ⟨0, _⟩ => ⟨S512x64x768, .f32⟩
  | .hbm, ⟨1, _⟩ => ⟨S512x64x1, .i32⟩
  | .hbm, ⟨2, _⟩ => ⟨S512x64, .i1⟩
  | .hbm, ⟨3, _⟩ => ⟨S1024x768, .f32⟩
  | .hbm, ⟨4, _⟩ => ⟨S1024, .f32⟩
  | .hbm, ⟨5, _⟩ => ⟨S768x1024, .f32⟩
  | .hbm, ⟨6, _⟩ => ⟨S512x64x1024, .f32⟩
  | .hbm, ⟨7, _⟩ => ⟨S1x1x1024, .f32⟩
  | .hbm, ⟨8, _⟩ => ⟨S512x64x1024, .f32⟩
  | .hbm, ⟨9, _⟩ => ⟨S512x64x1024, .f32⟩
  | .hbm, ⟨10, _⟩ => ⟨S512x64x32x32, .f32⟩
  | .hbm, ⟨11, _⟩ => ⟨S512x64x1024, .f32⟩
  | .hbm, ⟨12, _⟩ => ⟨S_, .i32⟩
  | .hbm, ⟨13, _⟩ => ⟨S512x64x1, .i32⟩
  | .hbm, ⟨14, _⟩ => ⟨S512x64x1, .i1⟩
  | .hbm, ⟨15, _⟩ => ⟨S_, .i32⟩
  | .hbm, ⟨16, _⟩ => ⟨S512x64x1, .i32⟩
  | .hbm, ⟨17, _⟩ => ⟨S512x64x1, .i32⟩
  | .hbm, ⟨18, _⟩ => ⟨S512x64x1, .i32⟩
  | .hbm, ⟨19, _⟩ => ⟨S512x64x1x1, .i32⟩
  | .hbm, ⟨20, _⟩ => ⟨S1, .i32⟩
  | .hbm, ⟨21, _⟩ => ⟨S_, .i32⟩
  | .hbm, ⟨22, _⟩ => ⟨S512x64x1x1, .i32⟩
  | .hbm, ⟨23, _⟩ => ⟨S512x64x1x1, .i1⟩
  | .hbm, ⟨24, _⟩ => ⟨S1x1x1x1, .i32⟩
  | .hbm, ⟨25, _⟩ => ⟨S512x64x1x1, .i32⟩
  | .hbm, ⟨26, _⟩ => ⟨S512x64x1x1, .i1⟩
  | .hbm, ⟨27, _⟩ => ⟨S512x64x1x1, .i1⟩
  | .hbm, ⟨28, _⟩ => ⟨S_, .i1⟩
  | .hbm, ⟨29, _⟩ => ⟨S512x64x1, .i1⟩
  | .hbm, ⟨30, _⟩ => ⟨S512x64x1, .f32⟩
  | .hbm, ⟨31, _⟩ => ⟨S_, .f32⟩
  | .hbm, ⟨32, _⟩ => ⟨S512x64x1, .f32⟩
  | .hbm, ⟨33, _⟩ => ⟨S512x64x1, .f32⟩
  | .hbm, ⟨34, _⟩ => ⟨S512x64, .f32⟩
  | .hbm, ⟨35, _⟩ => ⟨S_, .f32⟩
  | .hbm, ⟨36, _⟩ => ⟨S_, .f32⟩
  | .hbm, ⟨37, _⟩ => ⟨S512x64, .f32⟩
  | .hbm, ⟨38, _⟩ => ⟨S512x64, .f32⟩
  | .hbm, ⟨39, _⟩ => ⟨S_, .f32⟩
  | .hbm, ⟨40, _⟩ => ⟨S_, .f32⟩
  | .hbm, ⟨41, _⟩ => ⟨S1x64x32x32, .f32⟩
  | .hbm, ⟨42, _⟩ => ⟨S64x32x32, .f32⟩
  | .hbm, ⟨43, _⟩ => ⟨S64x1x32, .f32⟩
  | .hbm, ⟨44, _⟩ => ⟨S64x32, .f32⟩
  | .hbm, ⟨45, _⟩ => ⟨S511x64x32x32, .f32⟩
  | .hbm, ⟨46, _⟩ => ⟨S511x64, .i1⟩
  | .hbm, ⟨47, _⟩ => ⟨S_, .i32⟩
  | .hbm, ⟨48, _⟩ => ⟨S511x64x32x32, .f32⟩
  | .hbm, ⟨49, _⟩ => ⟨S511x64, .i1⟩
  | .hbm, ⟨50, _⟩ => ⟨S_, .i32⟩
  | .hbm, ⟨51, _⟩ => ⟨S64x32, .f32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x64x32x32, .f32⟩
  | .hbm, ⟨58, _⟩ => ⟨S64x32x32, .f32⟩
  | .hbm, ⟨59, _⟩ => ⟨S_, .i32⟩
  | .hbm, ⟨60, _⟩ => ⟨S1x64, .i1⟩
  | .hbm, ⟨61, _⟩ => ⟨S64, .i1⟩
  | .hbm, ⟨62, _⟩ => ⟨S64x32x1, .f32⟩
  | .hbm, ⟨63, _⟩ => ⟨S64x32x32, .f32⟩
  | .hbm, ⟨64, _⟩ => ⟨S64x32x32, .f32⟩
  | .hbm, ⟨65, _⟩ => ⟨S_, .f32⟩
  | .hbm, ⟨66, _⟩ => ⟨S64x32, .f32⟩
  | .hbm, ⟨67, _⟩ => ⟨S64x1x32, .f32⟩
  | .hbm, ⟨68, _⟩ => ⟨S64x32x32, .f32⟩
  | .hbm, ⟨69, _⟩ => ⟨S64x32x32, .f32⟩
  | .hbm, ⟨70, _⟩ => ⟨S64x32x32, .f32⟩
  | .hbm, ⟨71, _⟩ => ⟨S_, .f32⟩
  | .hbm, ⟨72, _⟩ => ⟨S64x32, .f32⟩
  | .hbm, ⟨73, _⟩ => ⟨S64x32, .f32⟩
  | .hbm, ⟨74, _⟩ => ⟨S64x32, .f32⟩
  | .hbm, ⟨75, _⟩ => ⟨S64x1, .i1⟩
  | .hbm, ⟨76, _⟩ => ⟨S64x32, .i1⟩
  | .hbm, ⟨77, _⟩ => ⟨S64x32, .f32⟩
  | .hbm, ⟨78, _⟩ => ⟨S_, .i32⟩
  | .hbm, ⟨79, _⟩ => ⟨S_, .i32⟩
  | .hbm, ⟨80, _⟩ => ⟨S64x1, .f32⟩
  | .hbm, ⟨81, _⟩ => ⟨S64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S512x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c : Ref sig .tc := ⟨.hbm, 47, rfl⟩
abbrev main_v17_0 : Ref sig .tc := ⟨.hbm, 48, rfl⟩
abbrev main_v17_1 : Ref sig .tc := ⟨.hbm, 49, rfl⟩
abbrev main_v17_2 : Ref sig .tc := ⟨.hbm, 50, rfl⟩
abbrev main_v17_3 : Ref sig .tc := ⟨.hbm, 51, rfl⟩
abbrev main_while0c_c_6 : Ref sig .tc := ⟨.hbm, 52, rfl⟩
abbrev main_while0c_v23 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_c_1 : Ref sig .tc := ⟨.hbm, 56, rfl⟩
abbrev main_while0b_call2_v0 : Ref sig .tc := ⟨.hbm, 57, rfl⟩
abbrev main_while0b_v23 : Ref sig .tc := ⟨.hbm, 58, rfl⟩
abbrev main_while0b_call3_c : Ref sig .tc := ⟨.hbm, 59, rfl⟩
abbrev main_while0b_call3_v0 : Ref sig .tc := ⟨.hbm, 60, rfl⟩
abbrev main_while0b_v24 : Ref sig .tc := ⟨.hbm, 61, rfl⟩
abbrev main_while0b_v25 : Ref sig .tc := ⟨.hbm, 62, rfl⟩
abbrev main_while0b_v26 : Ref sig .tc := ⟨.hbm, 63, rfl⟩
abbrev main_while0b_v27 : Ref sig .tc := ⟨.hbm, 64, rfl⟩
abbrev main_while0b_cst_6 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_cst_7 : Ref sig .tc := ⟨.hbm, 71, rfl⟩
abbrev main_while0b_v33 : Ref sig .tc := ⟨.hbm, 72, rfl⟩
abbrev main_while0b_v34 : Ref sig .tc := ⟨.hbm, 73, rfl⟩
abbrev main_while0b_v35 : Ref sig .tc := ⟨.hbm, 74, rfl⟩
abbrev main_while0b_v36 : Ref sig .tc := ⟨.hbm, 75, rfl⟩
abbrev main_while0b_call4_v0 : Ref sig .tc := ⟨.hbm, 76, rfl⟩
abbrev main_while0b_v37 : Ref sig .tc := ⟨.hbm, 77, rfl⟩
abbrev main_while0b_c_8 : Ref sig .tc := ⟨.hbm, 78, rfl⟩
abbrev main_while0b_v38 : Ref sig .tc := ⟨.hbm, 79, rfl⟩
abbrev main_v18 : Ref sig .tc := ⟨.hbm, 80, rfl⟩
abbrev main_v19 : Ref sig .tc := ⟨.hbm, 81, rfl⟩
abbrev main_cst_1 : Ref sig .tc := ⟨.hbm, 82, rfl⟩
abbrev main_v20 : Ref sig .tc := ⟨.hbm, 83, rfl⟩
abbrev main_v21 : Ref sig .tc := ⟨.hbm, 84, rfl⟩
abbrev main_cst_2 : Ref sig .tc := ⟨.hbm, 85, rfl⟩
abbrev main_v22 : Ref sig .tc := ⟨.hbm, 86, rfl⟩

abbrev nD : Nat := 1
abbrev τ : Topo := Topo.v7x

variable {F : FTy → Type} [FloatOps F]

abbrev main_while0_count : Scf.Loop 32 := ⟨0#32, 511#32, 1#32⟩
-- ==== Proof.Body.lean ====
/-
  The kernel body as a short program. The printed body spells out each of its two phases (the grid's even points and
  its odd ones) statement by statement, 1179 statements each; here one phase is a program over the step `i` of a block
  (eight of them) and the four chains of sixteen rows, with the values it stores named as functions. The printed body
  is this program by unfolding (`body_eq`).
-/
module

public import proofs.«01_k».proof.KernelIdeal
public import Idealize.ShloMosaic.Lib.Pipeline.Kit
public import Idealize.ShloMosaic.Lib.Pipeline.Regions

@[expose] public section

noncomputable section

namespace Cert.Proof.Crf

open Cert.KernelIdeal
open Idealize.ShloMosaic Idealize.SL.Sem
open Cert.KernelIdeal.Facts₀
open Idealize.ShloMosaic.Pipeline

variable {F : FTy → Type} [FloatOps F] [Facts]

/-! ## Offsets in range -/

/-- Rows `64 i … 64 i + 63` lie in the block's buffer. -/
theorem inbEx (i : Fin 8) : ∀ a, (![64 * i.val, 0] : Fin 2 → Nat) a + S64x1024.size a ≤ S512x1024.size a := by
  revert i; decide
/-- Column `i` lies in the bounds' buffer. -/
theorem inbBnd (i : Fin 8) : ∀ a, (![0, i.val] : Fin 2 → Nat) a + S64x1.size a ≤ S64x8.size a := by
  revert i; decide
/-- Rows `64 i + 16 c … + 15` lie in the block's buffer. -/
theorem inbChain (i : Fin 8) (c : Fin 4) : ∀ a, (![64 * i.val + 16 * c.val, 0] : Fin 2 → Nat) a + S16x1024.size a ≤ S512x1024.size a := by
  revert i c; decide
/-- The start tag's columns of chain `c`'s first rows lie in the block's buffer. -/
theorem inbStart (c : Fin 4) : ∀ a, (![16 * c.val, 960] : Fin 2 → Nat) a + S16x32.size a ≤ S512x1024.size a := by
  revert c; decide
/-- Rows `16 c … 16 c + 15` lie in the chains' buffers. -/
theorem inbPO (c : Fin 4) : ∀ a, (![16 * c.val, 0] : Fin 2 → Nat) a + S16x32.size a ≤ S64x32.size a := by
  revert c; decide
/-- Step `i`'s rows are a slice of the block's scores. -/
theorem slScores (i : Fin 8) : S512x1024.Slices ![64 * i.val, 0] S64x1024 := by revert i; decide
/-- Step `i`'s column is a slice of the block's targets and masks. -/
theorem slCol (i : Fin 8) : S64x8.Slices ![0, i.val] S64x1 := by revert i; decide
/-- Chain `c`'s rows are a slice of a column. -/
theorem slChain (c : Fin 4) : S64x1.Slices ![16 * c.val, 0] S16x1 := by revert c; decide

/-! ## The values -/

/-- The block's scores: the product of its features and the transposed weights, plus the bias. -/
def scoresV (x : Vec F S512x768 .f32) (wt : Vec F S768x1024 .bf16) (b : Vec F S1x1024 .f32) : FVec F S512x1024 .f32 :=
  addf (matmul dot_S512x768_S768x1024_S512x1024_1_0_0_1_n_n none (truncf .bf16 (shapeCast S512x768 x shapeCasts_S512x768_S512x768) bitsLt_bf16_f32)
      (shapeCast S768x1024 wt shapeCasts_S768x1024_S768x1024) (constant S512x1024 .f32 0x00000000#32))
    (broadcastTo S512x1024 (shapeCast S1x1024 b shapeCasts_S1x1024_S1x1024) broadcasts_S1x1024_S512x1024)

/-- Step `i`'s rows of the scores. -/
def tileV (sc : FVec F S512x1024 .f32) (i : Fin 8) : FVec F S64x1024 .f32 :=
  extractStridedSlice S64x1024 ![64 * i.val, 0] sc (slScores i)

/-- Each row's bound: its greatest score plus the constant. -/
def boundV (t : FVec F S64x1024 .f32) : FVec F S64x1 .f32 :=
  addf (shapeCast S64x1 (multiReduction .maximumf [1] S64 t 0xFF800000#32 reduces_S64x1024_S64 (.inl rfl) rfl) shapeCasts_S64_S64x1)
    (broadcast S64x1 (Scalar.ofBits .f32 0x405DCE9E#32))

/-- The exponentials of the scores less their row's bound. -/
def expV (t : FVec F S64x1024 .f32) : FVec F S64x1024 .f32 :=
  exp (subf t (broadcastTo S64x1024 (boundV t) broadcasts_S64x1_S64x1024))

/-- The scores at the targets of the rows that the mask keeps, summed. -/
def goldV (t : FVec F S64x1024 .f32) (tgt : IVec S64x8 32) (msk : FVec F S64x8 .f32) (i : Fin 8) : F .f32 :=
  extractAt ![0, 0, 0] (shapeCast S1x1x1 (multiReduction .add [1, 2] S1 (shapeCast S1x64x1024
      (select (andi (cmpi .eq (iota .tc S64x1024 32 [1] iota_S64x1024_d1_w32)
            (broadcastTo S64x1024 (extractStridedSlice S64x1 ![0, i.val] tgt (slCol i)) broadcasts_S64x1_S64x1024))
          (broadcastTo S64x1024 (cmpf .ogt (extractStridedSlice S64x1 ![0, i.val] msk (slCol i)) (broadcast S64x1 (Scalar.ofBits .f32 0x00000000#32))) broadcasts_S64x1_S64x1024))
        t (broadcast S64x1024 (Scalar.ofBits .f32 0x00000000#32))) shapeCasts_S64x1024_S1x64x1024)
      0x00000000#32 reduces_S1x64x1024_S1 (.inl rfl) rfl) shapeCasts_S1_S1x1x1) inpos_S1x1x1_p0_0_0

/-- One step of a chain: the row of `P` carried through the exponentials (both products). -/
def carryV (P : FVec F S16x32 .f32) (ex : Vec F S16x1024 .f32) (e : FVec F S32x1024 .f32) (s : FVec F S1024x32 .f32) : FVec F S16x32 .f32 :=
  matmul dot_S16x1024_S1024x32_S16x32_1_0_0_1_n_n none
    (mulf (matmul dot_S16x32_S32x1024_S16x1024_1_0_0_1_n_n none P e (constant S16x1024 .f32 0x00000000#32)) ex) s (constant S16x32 .f32 0x00000000#32)

/-- Where a column of the mask is set. -/
def maskV (msk : FVec F S64x8 .f32) (i : Fin 8) : IVec S64x1 1 :=
  cmpf .ogt (extractStridedSlice S64x1 ![0, i.val] msk (slCol i)) (broadcast S64x1 (Scalar.ofBits .f32 0x00000000#32))

/-- Chain `c`'s rows of a mask column, along the tags. -/
def maskC (m : IVec S64x1 1) (c : Fin 4) : IVec S16x32 1 :=
  broadcastTo S16x32 (shapeCast S16x1 (extractStridedSlice S16x1 ![16 * c.val, 0] m (slChain c)) shapeCasts_S16x1_S16x1) broadcasts_S16x1_S16x32

/-- Chain `c`'s rows of a bounds column, along the tags. -/
def boundC (b : Vec F S64x1 .f32) (c : Fin 4) : FVec F S16x32 .f32 :=
  broadcastTo S16x32 (extractStridedSlice S16x1 ![16 * c.val, 0] b (slChain c)) broadcasts_S16x1_S16x32

/-- Chain `c`'s scaled sums after a step. -/
def stepP (P : FVec F S16x32 .f32) (ex : Vec F S16x1024 .f32) (e : FVec F S32x1024 .f32) (s : FVec F S1024x32 .f32) (m : IVec S64x1 1) (c : Fin 4) : FVec F S16x32 .f32 :=
  select (maskC m c) (carryV P ex e s) P

/-- Chain `c`'s offsets after a step. -/
def stepO (O : FVec F S16x32 .f32) (b : Vec F S64x1 .f32) (m : IVec S64x1 1) (c : Fin 4) : FVec F S16x32 .f32 :=
  select (maskC m c) (addf O (boundC b c)) O

/-- Each row's greatest scaled sum, no less than the constant. -/
def pmaxV (P : FVec F S16x32 .f32) : FVec F S16x1 .f32 :=
  maximumf (shapeCast S16x1 (multiReduction .maximumf [1] S16 P 0xFF800000#32 reduces_S16x32_S16 (.inl rfl) rfl) shapeCasts_S16_S16x1)
    (broadcast S16x1 (Scalar.ofBits .f32 0x0DA24260#32))

/-- The scaled sums over their row's greatest. -/
def normP (P : FVec F S16x32 .f32) : FVec F S16x32 .f32 := divf P (broadcastTo S16x32 (pmaxV P) broadcasts_S16x1_S16x32)

/-- The offsets plus the logarithm of that greatest. -/
def normO (P O : FVec F S16x32 .f32) : FVec F S16x32 .f32 := addf O (broadcastTo S16x32 (log (pmaxV P)) broadcasts_S16x1_S16x32)

/-- The result: the end tag's logarithms summed over the batch, less the target's energy, over the batch's size. -/
def lossV (p o : Vec F S64x32 .f32) (tg : F .f32) : F .f32 :=
  Scalar.divf (Scalar.subf (extractAt ![0, 0, 0] (shapeCast S1x1x1 (multiReduction .add [1, 2] S1 (shapeCast S1x64x1
      (extractStridedSlice S64x1 ![0, 31] (addf (log (maximumf p (broadcast S64x32 (Scalar.ofBits .f32 0x006CE3EE#32)))) o) slices_S64x32_o0_31_S64x1)
      shapeCasts_S64x1_S1x64x1) 0x00000000#32 reduces_S1x64x1_S1 (.inl rfl) rfl) shapeCasts_S1_S1x1x1) inpos_S1x1x1_p0_0_0) tg)
    (Scalar.ofBits .f32 0x42800000#32)

/-! ## The program -/

/-- Programs of the kernel body. -/
abbrev Pr (F : FTy → Type) [FloatOps F] (α : Type) : Type _ := Prog (TpuEff nD τ sig (Elt F) Λ₀ .tc) α

section Prog

variable {α : Type} (x : Memref sig .tc .vmem S512x768 .f32) (tgtM : Memref sig .tc .vmem S1x64x8 .i32) (mskP mskC : Memref sig .tc .vmem S1x64x8 .f32)
  (wt : Memref sig .tc .vmem S768x1024 .bf16) (bM : Memref sig .tc .vmem S1x1024 .f32) (eM : Memref sig .tc .vmem S32x1024 .f32)
  (sM : Memref sig .tc .vmem S1024x32 .f32) (out : Memref sig .tc .smem S1x1 .f32)
  (exP : Memref sig .tc .vmem S512x1024 .f32) (bndP : Memref sig .tc .vmem S64x8 .f32)
  (exC : Memref sig .tc .vmem S512x1024 .f32) (bndC : Memref sig .tc .vmem S64x8 .f32)
  (p o : Memref sig .tc .vmem S64x32 .f32) (tg : Memref sig .tc .smem S1x1 .f32)

/-- Load a box of a VMEM memref. -/
abbrev ldV {s : Shape} {e : EltTy} (m : Memref sig .tc .vmem s e) (off size : Fin s.rank → Nat) (inb : ∀ a, off a + size a ≤ s.size a)
    (h : 0 < (⟨s.rank, size⟩ : Shape).numel) (k : (((a : Fin s.rank) → Fin (size a)) → Elt F e) → Pr F α) : Pr F α :=
  .op (.load m (Rect.unit (s := s) off size inb).toLoadRect (View.loadsAt_vmem h)) k

/-- Store a box of a VMEM memref. -/
abbrev stV {s : Shape} (m : Memref sig .tc .vmem s .f32) (off size : Fin s.rank → Nat) (inb : ∀ a, off a + size a ≤ s.size a)
    (h : 0 < (⟨s.rank, size⟩ : Shape).numel) (w : ((a : Fin s.rank) → Fin (size a)) → Elt F .f32) (k : Pr F α) : Pr F α :=
  .op (.store m (Rect.unit (s := s) off size inb) w Finset.univ (View.stores_vmem_bits_univ h rfl) (.inl rfl)) fun _ => k

/-- Load the word of a one-word SMEM memref. -/
abbrev ldS (m : Memref sig .tc .smem S1x1 .f32) (k : Elt F .f32 → Pr F α) : Pr F α :=
  smemLoadElt m (Rect.unit (s := S1x1) ![0, 0] S1x1.size inb_S1x1_S1x1_0_0) (View.loads_smem_one rfl numel1_S1x1) (Shape.Idx.first (numel1_S1x1.symm ▸ Nat.one_pos)) k

/-- Store the word of a one-word SMEM memref. -/
abbrev stS (m : Memref sig .tc .smem S1x1 .f32) (v : Elt F .f32) (k : Pr F α) : Pr F α :=
  .op (.store m (Rect.unit (s := S1x1) ![0, 0] S1x1.size inb_S1x1_S1x1_0_0) (fun _ => v) Finset.univ (View.stores_smem_one rfl numel1_S1x1) (.inl rfl)) fun _ => k

/-- Step `i` of a block's production: its tile of exponentials and its column of bounds stored. -/
def prodStep (sc : FVec F S512x1024 .f32) (i : Fin 8) (k : Pr F α) : Pr F α :=
  ldV exP ![64 * i.val, 0] S64x1024.size (inbEx i) h_S64x1024 fun _ =>
  stV exP ![64 * i.val, 0] S64x1024.size (inbEx i) h_S64x1024 (shapeCast S64x1024 (expV (tileV sc i)) shapeCasts_S64x1024_S64x1024) <|
  ldV bndP ![0, i.val] S64x1.size (inbBnd i) h_S64x1 fun _ =>
  stV bndP ![0, i.val] S64x1.size (inbBnd i) h_S64x1 (shapeCast S64x1 (boundV (tileV sc i)) shapeCasts_S64x1_S64x1) k

/-- A block's production, over a list of steps. -/
def prodAll (sc : FVec F S512x1024 .f32) : List (Fin 8) → Pr F α → Pr F α
  | [], k => k
  | i :: is, k => prodStep exP bndP sc i (prodAll sc is k)

/-- A block's scores at its targets, summed over a list of steps. -/
def goldAll (sc : FVec F S512x1024 .f32) (tgt : IVec S64x8 32) (msk : FVec F S64x8 .f32) : List (Fin 8) → F .f32 → F .f32
  | [], a => a
  | i :: is, a => goldAll sc tgt msk is (Scalar.addf a (goldV (tileV sc i) tgt msk i))

/-- The four chains' values. -/
abbrev Chains (F : FTy → Type) [FloatOps F] : Type := Fin 4 → FVec F S16x32 .f32

/-- Load the four chains' rows of a buffer of 64 rows. -/
def loadChains (m : Memref sig .tc .vmem S64x32 .f32) (k : Chains F → Pr F α) : Pr F α :=
  ldV m ![16 * (0 : Fin 4).val, 0] S16x32.size (inbPO 0) h_S16x32 fun a =>
  ldV m ![16 * (1 : Fin 4).val, 0] S16x32.size (inbPO 1) h_S16x32 fun b =>
  ldV m ![16 * (2 : Fin 4).val, 0] S16x32.size (inbPO 2) h_S16x32 fun c =>
  ldV m ![16 * (3 : Fin 4).val, 0] S16x32.size (inbPO 3) h_S16x32 fun d => k ![a, b, c, d]

/-- Load the four chains' rows of step `i`'s exponentials. -/
def loadEx (i : Fin 8) (k : (Fin 4 → Vec F S16x1024 .f32) → Pr F α) : Pr F α :=
  ldV exC ![64 * i.val + 16 * (0 : Fin 4).val, 0] S16x1024.size (inbChain i 0) h_S16x1024 fun a =>
  ldV exC ![64 * i.val + 16 * (1 : Fin 4).val, 0] S16x1024.size (inbChain i 1) h_S16x1024 fun b =>
  ldV exC ![64 * i.val + 16 * (2 : Fin 4).val, 0] S16x1024.size (inbChain i 2) h_S16x1024 fun c =>
  ldV exC ![64 * i.val + 16 * (3 : Fin 4).val, 0] S16x1024.size (inbChain i 3) h_S16x1024 fun d => k ![a, b, c, d]

/-- Load the start tag's columns of the four chains' first rows. -/
def loadStart (k : Chains F → Pr F α) : Pr F α :=
  ldV exC ![16 * (0 : Fin 4).val, 960] S16x32.size (inbStart 0) h_S16x32 fun a =>
  ldV exC ![16 * (1 : Fin 4).val, 960] S16x32.size (inbStart 1) h_S16x32 fun b =>
  ldV exC ![16 * (2 : Fin 4).val, 960] S16x32.size (inbStart 2) h_S16x32 fun c =>
  ldV exC ![16 * (3 : Fin 4).val, 960] S16x32.size (inbStart 3) h_S16x32 fun d => k ![a, b, c, d]

/-- Step `i` of a block's consumption. -/
def consStep (msk : FVec F S64x8 .f32) (e : FVec F S32x1024 .f32) (s : FVec F S1024x32 .f32) (i : Fin 8) (P O : Chains F)
    (k : Chains F → Chains F → Pr F α) : Pr F α :=
  loadEx exC i fun ex =>
  ldV bndC ![0, i.val] S64x1.size (inbBnd i) h_S64x1 fun b =>
  k (fun c => stepP (P c) (ex c) e s (maskV msk i) c) (fun c => stepO (O c) b (maskV msk i) c)

/-- A block's consumption, over a list of steps. -/
def consAll (msk : FVec F S64x8 .f32) (e : FVec F S32x1024 .f32) (s : FVec F S1024x32 .f32) :
    List (Fin 8) → Chains F → Chains F → (Chains F → Chains F → Pr F α) → Pr F α
  | [], P, O, k => k P O
  | i :: is, P, O, k => consStep exC bndC msk e s i P O fun P' O' => consAll msk e s is P' O' k

/-- The first step of a block's consumption: at the grid's point 1 it starts the chains. -/
def consFirst (arg0 : BitVec 32) (msk : FVec F S64x8 .f32) (e : FVec F S32x1024 .f32) (s : FVec F S1024x32 .f32) (P O : Chains F)
    (k : Chains F → Chains F → Pr F α) : Pr F α :=
  loadEx exC 0 fun ex =>
  ldV bndC ![0, (0 : Fin 8).val] S64x1.size (inbBnd 0) h_S64x1 fun b =>
  loadStart exC fun st =>
  k (fun c => Scalar.select (Scalar.cmpi .eq arg0 1#32) (st c) (stepP (P c) (ex c) e s (maskV msk 0) c))
    (fun c => Scalar.select (Scalar.cmpi .eq arg0 1#32) (addf (broadcast S16x32 (Scalar.ofBits .f32 0x00000000#32)) (boundC b c)) (stepO (O c) b (maskV msk 0) c))

/-- Store the four chains, scaled by their rows' greatest. -/
def storeChains (P O : Chains F) : List (Fin 4) → Pr F α → Pr F α
  | [], k => k
  | c :: cs, k =>
    ldV p ![16 * c.val, 0] S16x32.size (inbPO c) h_S16x32 fun _ =>
    stV p ![16 * c.val, 0] S16x32.size (inbPO c) h_S16x32 (shapeCast S16x32 (normP (P c)) shapeCasts_S16x32_S16x32) <|
    ldV o ![16 * c.val, 0] S16x32.size (inbPO c) h_S16x32 fun _ =>
    stV o ![16 * c.val, 0] S16x32.size (inbPO c) h_S16x32 (shapeCast S16x32 (normO (P c) (O c)) shapeCasts_S16x32_S16x32) (storeChains P O cs k)

/-- One phase: produce a block into `exP`, `bndP`, consume the block in `exC`, `bndC`. -/
def phase (arg0 : BitVec 32) (k : Pr F α) : Pr F α :=
  ldV x ![0, 0] S512x768.size inb_S512x768_S512x768_0_0 h_S512x768 fun xv =>
  ldV wt ![0, 0] S768x1024.size inb_S768x1024_S768x1024_0_0 h_S768x1024 fun wv =>
  ldV bM ![0, 0] S1x1024.size inb_S1x1024_S1x1024_0_0 h_S1x1024 fun bv =>
  ldV tgtM ![0, 0, 0] S1x64x8.size inb_S1x64x8_S1x64x8_0_0_0 h_S1x64x8 fun tv =>
  ldV mskP ![0, 0, 0] S1x64x8.size inb_S1x64x8_S1x64x8_0_0_0 h_S1x64x8 fun mv =>
  ldS tg fun t0 =>
  prodAll exP bndP (scoresV xv wv bv) [0, 1, 2, 3, 4, 5, 6, 7] <|
  ldS tg fun _ =>
  stS tg (Scalar.addf (Scalar.select (Scalar.cmpi .eq arg0 0#32) (Scalar.ofBits .f32 0x00000000#32) t0)
    (Scalar.select (Scalar.cmpi .slt arg0 64#32)
      (goldAll (scoresV xv wv bv) (shapeCast S64x8 tv shapeCasts_S1x64x8_S64x8) (shapeCast S64x8 mv shapeCasts_S1x64x8_S64x8) [0, 1, 2, 3, 4, 5, 6, 7] (Scalar.ofBits .f32 0x00000000#32))
      (Scalar.ofBits .f32 0x00000000#32))) <|
  ldV mskC ![0, 0, 0] S1x64x8.size inb_S1x64x8_S1x64x8_0_0_0 h_S1x64x8 fun cv =>
  ldV eM ![0, 0] S32x1024.size inb_S32x1024_S32x1024_0_0 h_S32x1024 fun ev =>
  ldV sM ![0, 0] S1024x32.size inb_S1024x32_S1024x32_0_0 h_S1024x32 fun sv =>
  loadChains p fun P => loadChains o fun O =>
  consFirst exC bndC arg0 (shapeCast S64x8 cv shapeCasts_S1x64x8_S64x8) (shapeCast S32x1024 ev shapeCasts_S32x1024_S32x1024) (shapeCast S1024x32 sv shapeCasts_S1024x32_S1024x32) P O fun P O =>
  consAll exC bndC (shapeCast S64x8 cv shapeCasts_S1x64x8_S64x8) (shapeCast S32x1024 ev shapeCasts_S32x1024_S32x1024) (shapeCast S1024x32 sv shapeCasts_S1024x32_S1024x32) [1, 2, 3, 4, 5, 6, 7] P O fun P O =>
  storeChains p o P O [0, 1, 2, 3] k

/-- The last point's store of the result. -/
def lastStore : Pr F PUnit :=
  ldV p ![0, 0] S64x32.size inb_S64x32_S64x32_0_0 h_S64x32 fun pv =>
  ldV o ![0, 0] S64x32.size inb_S64x32_S64x32_0_0 h_S64x32 fun ov =>
  ldS tg fun t =>
  ldS out fun _ =>
  stS out (lossV pv ov t) (.ret ⟨⟩)

end Prog

/-- The even points' condition. -/
def evenC (i : grid0.Coords) : BitVec 1 :=
  Scalar.cmpi .ne (Scalar.extui (Scalar.cmpi .eq (Scalar.remsi (BitVec.ofNat 32 (i 0).val) 2#32) 0#32) : BitVec 32) 0#32
/-- The odd points' condition. -/
def oddC (i : grid0.Coords) : BitVec 1 :=
  Scalar.cmpi .ne (Scalar.extui (Scalar.cmpi .eq (Scalar.remsi (BitVec.ofNat 32 (i 0).val) 2#32) 1#32) : BitVec 32) 0#32

/-- The body: at an even point one phase, at an odd point the other, at the last point the result's store. -/
def body (i : grid0.Coords) (x : Memref sig .tc .vmem S512x768 .f32) (tgtM : Memref sig .tc .vmem S1x64x8 .i32) (mskP : Memref sig .tc .vmem S1x64x8 .f32) (mskC : Memref sig .tc .vmem S1x64x8 .f32) (wt : Memref sig .tc .vmem S768x1024 .bf16) (bM : Memref sig .tc .vmem S1x1024 .f32) (eM : Memref sig .tc .vmem S32x1024 .f32) (sM : Memref sig .tc .vmem S1024x32 .f32) (out : Memref sig .tc .smem S1x1 .f32) (exA : Memref sig .tc .vmem S512x1024 .f32) (exB : Memref sig .tc .vmem S512x1024 .f32) (bndA : Memref sig .tc .vmem S64x8 .f32) (bndB : Memref sig .tc .vmem S64x8 .f32) (p : Memref sig .tc .vmem S64x32 .f32) (o : Memref sig .tc .vmem S64x32 .f32) (tg : Memref sig .tc .smem S1x1 .f32) : Pr F PUnit :=
  let last : Pr F PUnit := if _h : k0_cond3 i = 1#1 then lastStore out p o tg else .ret ⟨⟩
  let odd : Pr F PUnit := if _h : oddC i = 1#1 then phase x tgtM mskP mskC wt bM eM sM exB bndB exA bndA p o tg (BitVec.ofNat 32 (i 0).val) last else last
  if _h : evenC i = 1#1 then phase x tgtM mskP mskC wt bM eM sM exA bndA exB bndB p o tg (BitVec.ofNat 32 (i 0).val) odd else odd

/-- The printed body is that program, by unfolding. -/
theorem body_eq (i : grid0.Coords) (x : Memref sig .tc .vmem S512x768 .f32) (hx : x.IsWhole) (tgtM : Memref sig .tc .vmem S1x64x8 .i32) (htgtM : tgtM.IsWhole) (mskP : Memref sig .tc .vmem S1x64x8 .f32) (hmskP : mskP.IsWhole) (mskC : Memref sig .tc .vmem S1x64x8 .f32) (hmskC : mskC.IsWhole) (wt : Memref sig .tc .vmem S768x1024 .bf16) (hwt : wt.IsWhole) (bM : Memref sig .tc .vmem S1x1024 .f32) (hbM : bM.IsWhole) (eM : Memref sig .tc .vmem S32x1024 .f32) (heM : eM.IsWhole) (sM : Memref sig .tc .vmem S1024x32 .f32) (hsM : sM.IsWhole) (out : Memref sig .tc .smem S1x1 .f32) (hout : out.IsWhole) (exA : Memref sig .tc .vmem S512x1024 .f32) (hexA : exA.IsWhole) (exB : Memref sig .tc .vmem S512x1024 .f32) (hexB : exB.IsWhole) (bndA : Memref sig .tc .vmem S64x8 .f32) (hbndA : bndA.IsWhole) (bndB : Memref sig .tc .vmem S64x8 .f32) (hbndB : bndB.IsWhole) (p : Memref sig .tc .vmem S64x32 .f32) (hp : p.IsWhole) (o : Memref sig .tc .vmem S64x32 .f32) (ho : o.IsWhole) (tg : Memref sig .tc .smem S1x1 .f32) (htg : tg.IsWhole) :
    cc0__crf_body (F := F) i x hx tgtM htgtM mskP hmskP mskC hmskC wt hwt bM hbM eM heM sM hsM out hout exA hexA exB hexB bndA hbndA bndB hbndB p hp o ho tg htg
      = body (F := F) i x tgtM mskP mskC wt bM eM sM out exA exB bndA bndB p o tg := by
  chain_rfl

end Cert.Proof.Crf

end
-- ==== Proof.Run.lean ====
/-
  What the kernel body does with its buffers, by rules: each load reads a window of what its buffer holds, each store
  puts its payload there; then one phase's post, as a function of what the buffers held before it.
-/
module

public import proofs.«01_k».proof.Proof.Body
public import Idealize.ShloMosaic.Lib.VecWindow
public import Idealize.ShloMosaic.Lib.Writes
public import Idealize.ShloMosaic.Lib.Memref
public import Idealize.ShloMosaic.Lib.Pipeline.Value

@[expose] public section

noncomputable section

namespace Cert.Proof.Crf

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀
open VecWindow

variable {F : FTy → Type} [FloatOps F] [Facts]

local notation "𝕄" => MT nD τ sig Unit (Elt F) ℕ (UR sig nD τ) ℕ

/-- The weakest precondition of a kernel body on core `c`. -/
abbrev WP (c : Dev nD) (p : Pr F PUnit) (Q : PUnit → sProp 𝕄) : sProp 𝕄 :=
  wp frame (wpE (defs₀ (F := F)) Variants.none (c : Thread nD τ) none) Set.univ p Q

variable (c : Dev nD) (Q : PUnit.{1} → sProp (MT nD τ sig Unit (Elt F) ℕ (UR sig nD τ) ℕ))

/-! ## Loads and stores -/

/-- A load reads the window of what the memref holds. -/
theorem run_ld {s : Shape} {e : EltTy} (m : Memref sig .tc .vmem s e) (q : PosShare TreeShare) (X : s.Idx → Elt F e) (off size : Fin s.rank → Nat)
    (inb : ∀ a, off a + size a ≤ s.size a) (h : 0 < (⟨s.rank, size⟩ : Shape).numel)
    (k : (((a : Fin s.rank) → Fin (size a)) → Elt F e) → Pr F PUnit) :
    (owns (Val := Elt F) (c : Thread nD τ) m q X : sProp 𝕄)
      ⊢ iprop((owns (c : Thread nD τ) m q X -∗ WP c (k (window X off size inb)) Q) -∗ WP c (ldV m off size inb h k) Q) := by
  unfold owns
  iintro ⟨%f, %hf, H⟩ K
  subst hf
  iapply (wp_load Variants.none (c : Thread nD τ) none Set.univ (m := m) (View.setOn_subset_set _ _)) $$ H
  iintro H
  rw [View.readAt_unit m.view f inb rfl inb]
  iapply K
  iexists f
  isplitr
  · ipureintro; rfl
  · iexact H

/-- A store puts its payload over the window. -/
theorem run_st {s : Shape} (m : Memref sig .tc .vmem s .f32) (X : s.Idx → Elt F .f32) (off size : Fin s.rank → Nat)
    (inb : ∀ a, off a + size a ≤ s.size a) (h : 0 < (⟨s.rank, size⟩ : Shape).numel) (w : ((a : Fin s.rank) → Fin (size a)) → Elt F .f32) (k : Pr F PUnit) :
    (owns (Val := Elt F) (c : Thread nD τ) m fullShare X : sProp 𝕄)
      ⊢ iprop((owns (c : Thread nD τ) m fullShare (put X off size w) -∗ WP c k Q) -∗ WP c (stV m off size inb h w k) Q) := by
  unfold owns
  iintro ⟨%f, %hf, H⟩ K
  subst hf
  iapply (wp_store_writes₀ Variants.none (c : Thread nD τ) none Set.univ (m := m) (View.set_slice_subset _ _)) $$ H
  iintro H
  iapply K
  iexists _
  isplitr
  · ipureintro; exact View.read_writes_cons_put m.view f inb w [] rfl
  · iexact H

/-- A word's load reads the word. -/
theorem run_ldS (m : Memref sig .tc .smem S1x1 .f32) (q : PosShare TreeShare) (v : Elt F .f32) (k : Elt F .f32 → Pr F PUnit) :
    (owns (Val := Elt F) (c : Thread nD τ) m q (fun _ => v) : sProp 𝕄)
      ⊢ iprop((owns (c : Thread nD τ) m q (fun _ => v) -∗ WP c (k v) Q) -∗ WP c (ldS m k) Q) := by
  unfold owns
  iintro ⟨%f, %hf, H⟩ K
  iapply (wp_load Variants.none (c : Thread nD τ) none Set.univ (m := m) (View.setOn_subset_set _ _)) $$ H
  iintro H
  rw [View.readAt_unit m.view f inb_S1x1_S1x1_0_0 rfl inb_S1x1_S1x1_0_0, hf]
  iapply K
  iexists f
  isplitr
  · ipureintro; exact hf
  · iexact H

/-- A word's store leaves the word. -/
theorem run_stS (m : Memref sig .tc .smem S1x1 .f32) (X : S1x1.Idx → Elt F .f32) (v : Elt F .f32) (k : Pr F PUnit) :
    (owns (Val := Elt F) (c : Thread nD τ) m fullShare X : sProp 𝕄)
      ⊢ iprop((owns (c : Thread nD τ) m fullShare (fun _ => v) -∗ WP c k Q) -∗ WP c (stS m v k) Q) := by
  unfold owns
  iintro ⟨%f, %hf, H⟩ K
  iapply (wp_store_writes₀ Variants.none (c : Thread nD τ) none Set.univ (m := m) (View.set_slice_subset _ _)) $$ H
  iintro H
  iapply K
  iexists _
  isplitr
  · ipureintro; exact View.read_writes_full m.view f inb_S1x1_S1x1_0_0 (fun _ => v) []
  · iexact H

/-! ## Production -/

/-- Step `i`'s tile of a block's buffer. -/
abbrev slot (X : Vec F S512x1024 .f32) (i : Fin 8) : Vec F S64x1024 .f32 := window X ![64 * i.val, 0] S64x1024.size (inbEx i)
/-- Step `i`'s column of the bounds' buffer. -/
abbrev col (B : Vec F S64x8 .f32) (i : Fin 8) : Vec F S64x1 .f32 := window B ![0, i.val] S64x1.size (inbBnd i)

/-- A tile written reads back. -/
theorem slot_put_same (X : Vec F S512x1024 .f32) (i : Fin 8) (w) : slot (put X ![64 * i.val, 0] S64x1024.size w) i = w :=
  window_put_same _ _ _ _ _
/-- A tile written leaves the others. -/
theorem slot_put_ne (X : Vec F S512x1024 .f32) (i j : Fin 8) (h : j ≠ i) (w) : slot (put X ![64 * i.val, 0] S64x1024.size w) j = slot X j :=
  window_put_of_disjoint _ _ _ _ _ _ _ 0 (by
    have : j.val ≠ i.val := fun e => h (Fin.ext e)
    show 64 * j.val + 64 ≤ 64 * i.val ∨ 64 * i.val + 64 ≤ 64 * j.val
    omega)
/-- A column written reads back. -/
theorem col_put_same (B : Vec F S64x8 .f32) (i : Fin 8) (w) : col (put B ![0, i.val] S64x1.size w) i = w :=
  window_put_same _ _ _ _ _
/-- A column written leaves the others. -/
theorem col_put_ne (B : Vec F S64x8 .f32) (i j : Fin 8) (h : j ≠ i) (w) : col (put B ![0, i.val] S64x1.size w) j = col B j :=
  window_put_of_disjoint _ _ _ _ _ _ _ 1 (by
    have : j.val ≠ i.val := fun e => h (Fin.ext e)
    show j.val + 1 ≤ i.val ∨ i.val + 1 ≤ j.val
    omega)

/-- The buffers hold the block of scores `sc` at the steps where `p` holds. -/
def Holds (sc : FVec F S512x1024 .f32) (X : Vec F S512x1024 .f32) (B : Vec F S64x8 .f32) (p : Fin 8 → Prop) : Prop :=
  ∀ i, p i → slot X i = expV (tileV sc i) ∧ col B i = boundV (tileV sc i)

/-- The store of step `i`'s tile and column adds step `i` to those held. -/
theorem Holds.put {sc : FVec F S512x1024 .f32} {X : Vec F S512x1024 .f32} {B : Vec F S64x8 .f32} {p : Fin 8 → Prop} (h : Holds sc X B p) (i : Fin 8) :
    Holds sc (VecWindow.put X ![64 * i.val, 0] S64x1024.size (shapeCast S64x1024 (expV (tileV sc i)) shapeCasts_S64x1024_S64x1024))
      (VecWindow.put B ![0, i.val] S64x1.size (shapeCast S64x1 (boundV (tileV sc i)) shapeCasts_S64x1_S64x1)) (fun j => j = i ∨ p j) := by
  intro j hj
  by_cases hji : j = i
  · subst hji
    rw [slot_put_same, col_put_same, shapeCast_self, shapeCast_self]
    exact ⟨rfl, rfl⟩
  · rw [slot_put_ne _ _ _ hji, col_put_ne _ _ _ hji]
    exact h j (hj.resolve_left hji)

include Q in
/-- A production over a list of steps leaves those steps' tiles, and what was held of the others. -/
theorem run_prodAll (exP : Memref sig .tc .vmem S512x1024 .f32) (bndP : Memref sig .tc .vmem S64x8 .f32) (sc : FVec F S512x1024 .f32) (k : Pr F PUnit) :
    ∀ (l : List (Fin 8)) (p : Fin 8 → Prop) (X : Vec F S512x1024 .f32) (B : Vec F S64x8 .f32), Holds sc X B p →
    iprop(owns (Val := Elt F) (c : Thread nD τ) exP fullShare X ∗ owns (c : Thread nD τ) bndP fullShare B
      ∗ (∀ X' B', ⌜Holds sc X' B' fun i => i ∈ l ∨ p i⌝ -∗ owns (c : Thread nD τ) exP fullShare X' -∗ owns (c : Thread nD τ) bndP fullShare B' -∗ WP c k Q))
      ⊢ WP c (prodAll exP bndP sc l k) Q
  | [], p, X, B, h => by
    iintro ⟨HX, HB, K⟩
    unfold prodAll
    iapply K $$ %X %B [] HX HB
    ipureintro
    intro i hi
    exact h i (hi.resolve_left (by simp))
  | i :: is, p, X, B, h => by
    iintro ⟨HX, HB, K⟩
    unfold prodAll prodStep
    iapply (run_ld c Q) $$ HX; iintro HX
    iapply (run_st c Q) $$ HX; iintro HX
    iapply (run_ld c Q) $$ HB; iintro HB
    iapply (run_st c Q) $$ HB; iintro HB
    iapply (run_prodAll exP bndP sc k is (fun j => j = i ∨ p j) _ _ (h.put i))
    isplitl [HX]; · iexact HX
    isplitl [HB]; · iexact HB
    iintro %X' %B' %hX HX HB
    iapply K $$ %X' %B' [] HX HB
    ipureintro
    intro j hj
    apply hX
    rcases hj with hj | hj
    · rcases List.mem_cons.mp hj with hj | hj
      · exact .inr (.inl hj)
      · exact .inl hj
    · exact .inr (.inr hj)

/-! ## Consumption -/

/-- The four chains' rows of a buffer of 64 rows. -/
abbrev chainsOf (X : Vec F S64x32 .f32) : Chains F := fun c => window X ![16 * c.val, 0] S16x32.size (inbPO c)
/-- The four chains' rows of step `i`'s exponentials. -/
abbrev exOf (X : Vec F S512x1024 .f32) (i : Fin 8) : Fin 4 → Vec F S16x1024 .f32 := fun c => window X ![64 * i.val + 16 * c.val, 0] S16x1024.size (inbChain i c)
/-- The start tag's columns of the four chains' first rows. -/
abbrev startOf (X : Vec F S512x1024 .f32) : Chains F := fun c => window X ![16 * c.val, 960] S16x32.size (inbStart c)

/-- Four values listed are the function of the chain. -/
theorem four_eq {α : Fin 4 → Type} {β : Type} (f : Fin 4 → β) : ![f 0, f 1, f 2, f 3] = f := by
  funext c; fin_cases c <;> rfl

/-- Loading a buffer's four chains. -/
theorem run_loadChains (m : Memref sig .tc .vmem S64x32 .f32) (X : Vec F S64x32 .f32) (k : Chains F → Pr F PUnit) :
    (owns (Val := Elt F) (c : Thread nD τ) m fullShare X : sProp 𝕄)
      ⊢ iprop((owns (c : Thread nD τ) m fullShare X -∗ WP c (k (chainsOf X)) Q) -∗ WP c (loadChains m k) Q) := by
  iintro H K
  unfold loadChains
  iapply (run_ld c Q) $$ H; iintro H
  iapply (run_ld c Q) $$ H; iintro H
  iapply (run_ld c Q) $$ H; iintro H
  iapply (run_ld c Q) $$ H; iintro H
  rw [four_eq (α := fun _ => Unit) (chainsOf X)]
  iapply K $$ H

/-- Loading a step's tile by chains. -/
theorem run_loadEx (m : Memref sig .tc .vmem S512x1024 .f32) (X : Vec F S512x1024 .f32) (i : Fin 8) (k : (Fin 4 → Vec F S16x1024 .f32) → Pr F PUnit) :
    (owns (Val := Elt F) (c : Thread nD τ) m fullShare X : sProp 𝕄)
      ⊢ iprop((owns (c : Thread nD τ) m fullShare X -∗ WP c (k (exOf X i)) Q) -∗ WP c (loadEx m i k) Q) := by
  iintro H K
  unfold loadEx
  iapply (run_ld c Q) $$ H; iintro H
  iapply (run_ld c Q) $$ H; iintro H
  iapply (run_ld c Q) $$ H; iintro H
  iapply (run_ld c Q) $$ H; iintro H
  rw [four_eq (α := fun _ => Unit) (exOf X i)]
  iapply K $$ H

/-- Loading the start tag's columns by chains. -/
theorem run_loadStart (m : Memref sig .tc .vmem S512x1024 .f32) (X : Vec F S512x1024 .f32) (k : Chains F → Pr F PUnit) :
    (owns (Val := Elt F) (c : Thread nD τ) m fullShare X : sProp 𝕄)
      ⊢ iprop((owns (c : Thread nD τ) m fullShare X -∗ WP c (k (startOf X)) Q) -∗ WP c (loadStart m k) Q) := by
  iintro H K
  unfold loadStart
  iapply (run_ld c Q) $$ H; iintro H
  iapply (run_ld c Q) $$ H; iintro H
  iapply (run_ld c Q) $$ H; iintro H
  iapply (run_ld c Q) $$ H; iintro H
  rw [four_eq (α := fun _ => Unit) (startOf X)]
  iapply K $$ H

/-- The chains after step `i` of a block held in the buffers `X`, `B`. -/
def consPO (X : Vec F S512x1024 .f32) (B : Vec F S64x8 .f32) (msk : FVec F S64x8 .f32) (e : FVec F S32x1024 .f32) (s : FVec F S1024x32 .f32)
    (i : Fin 8) (PO : Chains F × Chains F) : Chains F × Chains F :=
  (fun c => stepP (PO.1 c) (exOf X i c) e s (maskV msk i) c, fun c => stepO (PO.2 c) (col B i) (maskV msk i) c)

/-- The chains after the first step, which starts them at the grid's point 1. -/
def firstPO (arg0 : BitVec 32) (X : Vec F S512x1024 .f32) (B : Vec F S64x8 .f32) (msk : FVec F S64x8 .f32) (e : FVec F S32x1024 .f32) (s : FVec F S1024x32 .f32)
    (PO : Chains F × Chains F) : Chains F × Chains F :=
  (fun c => Scalar.select (Scalar.cmpi .eq arg0 1#32) (startOf X c) (stepP (PO.1 c) (exOf X 0 c) e s (maskV msk 0) c),
   fun c => Scalar.select (Scalar.cmpi .eq arg0 1#32) (addf (broadcast S16x32 (Scalar.ofBits .f32 0x00000000#32)) (boundC (col B 0) c)) (stepO (PO.2 c) (col B 0) (maskV msk 0) c))

/-- Any list of the consumed block's steps, one after the other. -/
theorem run_consAll (exC : Memref sig .tc .vmem S512x1024 .f32) (bndC : Memref sig .tc .vmem S64x8 .f32) (X : Vec F S512x1024 .f32) (B : Vec F S64x8 .f32)
    (msk : FVec F S64x8 .f32) (e : FVec F S32x1024 .f32) (s : FVec F S1024x32 .f32) (k : Chains F → Chains F → Pr F PUnit) :
    ∀ (l : List (Fin 8)) (PO : Chains F × Chains F),
    iprop(owns (Val := Elt F) (c : Thread nD τ) exC fullShare X ∗ owns (c : Thread nD τ) bndC fullShare B
      ∗ (owns (c : Thread nD τ) exC fullShare X -∗ owns (c : Thread nD τ) bndC fullShare B
        -∗ WP c (k (l.foldl (fun PO i => consPO X B msk e s i PO) PO).1 (l.foldl (fun PO i => consPO X B msk e s i PO) PO).2) Q))
      ⊢ WP c (consAll exC bndC msk e s l PO.1 PO.2 k) Q
  | [], PO => by
    iintro ⟨HX, HB, K⟩
    unfold consAll
    iapply K $$ HX HB
  | i :: is, PO => by
    iintro ⟨HX, HB, K⟩
    unfold consAll consStep
    iapply (run_loadEx c Q) $$ HX; iintro HX
    iapply (run_ld c Q) $$ HB; iintro HB
    iapply (run_consAll exC bndC X B msk e s k is (consPO X B msk e s i PO))
    isplitl [HX]; · iexact HX
    isplitl [HB]; · iexact HB
    iexact K

/-- The consumed block's first step, which sets the start at the second point. -/
theorem run_consFirst (exC : Memref sig .tc .vmem S512x1024 .f32) (bndC : Memref sig .tc .vmem S64x8 .f32) (X : Vec F S512x1024 .f32) (B : Vec F S64x8 .f32)
    (arg0 : BitVec 32) (msk : FVec F S64x8 .f32) (e : FVec F S32x1024 .f32) (s : FVec F S1024x32 .f32) (k : Chains F → Chains F → Pr F PUnit) (PO : Chains F × Chains F) :
    iprop(owns (Val := Elt F) (c : Thread nD τ) exC fullShare X ∗ owns (c : Thread nD τ) bndC fullShare B
      ∗ (owns (c : Thread nD τ) exC fullShare X -∗ owns (c : Thread nD τ) bndC fullShare B
        -∗ WP c (k (firstPO arg0 X B msk e s PO).1 (firstPO arg0 X B msk e s PO).2) Q))
      ⊢ WP c (consFirst exC bndC arg0 msk e s PO.1 PO.2 k) Q := by
  iintro ⟨HX, HB, K⟩
  unfold consFirst
  iapply (run_loadEx c Q) $$ HX; iintro HX
  iapply (run_ld c Q) $$ HB; iintro HB
  iapply (run_loadStart c Q) $$ HX; iintro HX
  iapply K $$ HX HB

/-! ## The chains' store -/

/-- A row's chain: sixteen rows each. -/
def rowChain (y : S64x32.Idx) : Fin 4 := ⟨(y 0).val / 16, by have h : (y 0).val < 64 := (y 0).isLt; omega⟩
/-- A row's place in its chain. -/
def rowIn (y : S64x32.Idx) : S16x32.Idx := fun a => match a with
  | ⟨0, _⟩ => ⟨(y 0).val % 16, Nat.mod_lt _ (by decide)⟩
  | ⟨1, _⟩ => y 1

/-- The buffer of 64 rows that holds four chains. -/
def joinC (w : Chains F) : Vec F S64x32 .f32 := fun y => w (rowChain y) (rowIn y)

/-- The buffer holds the chains where `p` holds. -/
def HoldsC (w : Chains F) (X : Vec F S64x32 .f32) (p : Fin 4 → Prop) : Prop := ∀ y, p (rowChain y) → X y = w (rowChain y) (rowIn y)

/-- The store of chain `i` adds it to those held. -/
theorem HoldsC.put {w : Chains F} {X : Vec F S64x32 .f32} {p : Fin 4 → Prop} (h : HoldsC w X p) (i : Fin 4) :
    HoldsC w (VecWindow.put X ![16 * i.val, 0] S16x32.size (w i)) (fun j => j = i ∨ p j) := by
  intro y hy
  have hy0 : (y 0).val < 64 := (y 0).isLt
  have hy1 : (y 1).val < 32 := (y 1).isLt
  unfold VecWindow.put
  by_cases hji : rowChain y = i
  · have hv : (y 0).val / 16 = i.val := congrArg Fin.val hji
    rw [dif_pos (show ∀ a, (![16 * i.val, 0] : Fin 2 → Nat) a ≤ (y a).val ∧ (y a).val < (![16 * i.val, 0] : Fin 2 → Nat) a + S16x32.size a from fun a => by
      fin_cases a
      · show 16 * i.val ≤ (y 0).val ∧ (y 0).val < 16 * i.val + 16; omega
      · show 0 ≤ (y 1).val ∧ (y 1).val < 0 + 32; omega)]
    rw [hji]
    refine congrArg (w i) (funext fun a => Fin.ext ?_)
    fin_cases a
    · show (y 0).val - 16 * i.val = (y 0).val % 16; omega
    · rfl
  · have hv : (y 0).val / 16 ≠ i.val := fun e => hji (Fin.ext e)
    rw [dif_neg (fun hall => by
      have h0 : 16 * i.val ≤ (y 0).val ∧ (y 0).val < 16 * i.val + 16 := hall 0
      omega)]
    exact h y (hy.resolve_left hji)

/-- All four held: the buffer is the chains joined. -/
theorem HoldsC.eq_join {w : Chains F} {X : Vec F S64x32 .f32} {p : Fin 4 → Prop} (h : HoldsC w X p) (hp : ∀ i, p i) : X = joinC w :=
  funext fun y => h y (hp _)

/-- Storing the four chains of both buffers. -/
theorem run_storeChains (pM oM : Memref sig .tc .vmem S64x32 .f32) (P O : Chains F) (k : Pr F PUnit) :
    ∀ (l : List (Fin 4)) (p : Fin 4 → Prop) (X Y : Vec F S64x32 .f32), HoldsC (fun c => normP (P c)) X p → HoldsC (fun c => normO (P c) (O c)) Y p →
    iprop(owns (Val := Elt F) (c : Thread nD τ) pM fullShare X ∗ owns (c : Thread nD τ) oM fullShare Y
      ∗ (∀ X' Y', ⌜HoldsC (fun c => normP (P c)) X' (fun i => i ∈ l ∨ p i) ∧ HoldsC (fun c => normO (P c) (O c)) Y' (fun i => i ∈ l ∨ p i)⌝
        -∗ owns (c : Thread nD τ) pM fullShare X' -∗ owns (c : Thread nD τ) oM fullShare Y' -∗ WP c k Q))
      ⊢ WP c (storeChains pM oM P O l k) Q
  | [], p, X, Y, hX, hY => by
    iintro ⟨HX, HY, K⟩
    unfold storeChains
    iapply K $$ %X %Y [] HX HY
    ipureintro
    exact ⟨fun y hy => hX y (hy.resolve_left (by simp)), fun y hy => hY y (hy.resolve_left (by simp))⟩
  | i :: is, p, X, Y, hX, hY => by
    iintro ⟨HX, HY, K⟩
    unfold storeChains
    rw [shapeCast_self, shapeCast_self]
    iapply (run_ld c Q) $$ HX; iintro HX
    iapply (run_st c Q) $$ HX; iintro HX
    iapply (run_ld c Q) $$ HY; iintro HY
    iapply (run_st c Q) $$ HY; iintro HY
    iapply (run_storeChains pM oM P O k is (fun j => j = i ∨ p j) _ _ (hX.put i) (hY.put i))
    isplitl [HX]; · iexact HX
    isplitl [HY]; · iexact HY
    iintro %X' %Y' %h HX HY
    iapply K $$ %X' %Y' [] HX HY
    ipureintro
    have key : ∀ j, (j ∈ i :: is ∨ p j) → (j ∈ is ∨ j = i ∨ p j) := fun j hj => by
      rcases hj with hj | hj
      · rcases List.mem_cons.mp hj with hj | hj
        · exact .inr (.inl hj)
        · exact .inl hj
      · exact .inr (.inr hj)
    exact ⟨fun y hy => h.1 y (key _ hy), fun y hy => h.2 y (key _ hy)⟩

end Cert.Proof.Crf

end
-- ==== Proof.Phase.lean ====
/-
  One phase of the kernel body, run: the produced block's buffers hold its tiles, the target's energy grows by the
  block's, and the chains go through the consumed block. Then the body at an even, an odd and the last point.
-/
module

public import proofs.«01_k».proof.Proof.Run

@[expose] public section

noncomputable section

namespace Cert.Proof.Crf

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀
open VecWindow

variable {F : FTy → Type} [FloatOps F] [Facts]

local notation "𝕄" => MT nD τ sig Unit (Elt F) ℕ (UR sig nD τ) ℕ

variable (c : Dev nD) (Q : PUnit.{1} → sProp (MT nD τ sig Unit (Elt F) ℕ (UR sig nD τ) ℕ))

/-- A window of the buffer's own sizes at offset zero is the buffer. -/
theorem window_whole {s : Shape} {α : Type} (x : s.Idx → α) (off : Fin s.rank → Nat) (h0 : ∀ a, off a = 0) (inb : ∀ a, off a + s.size a ≤ s.size a) :
    window x off s.size inb = x := by
  funext y
  exact congrArg x (funext fun a => Fin.ext (by
    show off a + 1 * (y a).val = (y a).val
    have := h0 a; omega))

/-- The steps of a block. -/
abbrev steps : List (Fin 8) := [0, 1, 2, 3, 4, 5, 6, 7]

/-- The target's energy after a phase at point `arg0` over scores `sc`. -/
def phaseTg (arg0 : BitVec 32) (sc : FVec F S512x1024 .f32) (tv : Vec F S1x64x8 .i32) (mv : Vec F S1x64x8 .f32) (t0 : F .f32) : F .f32 :=
  Scalar.addf (Scalar.select (Scalar.cmpi .eq arg0 0#32) (Scalar.ofBits .f32 0x00000000#32) t0)
    (Scalar.select (Scalar.cmpi .slt arg0 64#32)
      (goldAll sc (shapeCast S64x8 tv shapeCasts_S1x64x8_S64x8) (shapeCast S64x8 mv shapeCasts_S1x64x8_S64x8) [0, 1, 2, 3, 4, 5, 6, 7] (Scalar.ofBits .f32 0x00000000#32))
      (Scalar.ofBits .f32 0x00000000#32))

/-- The chains after a phase's eight steps over the block held in `X`, `B`. -/
def phaseChains (arg0 : BitVec 32) (X : Vec F S512x1024 .f32) (B : Vec F S64x8 .f32) (cv : Vec F S1x64x8 .f32) (ev : Vec F S32x1024 .f32) (sv : Vec F S1024x32 .f32)
    (po : Vec F S64x32 .f32 × Vec F S64x32 .f32) : Chains F × Chains F :=
  [1, 2, 3, 4, 5, 6, 7].foldl (fun PO i => consPO X B (shapeCast S64x8 cv shapeCasts_S1x64x8_S64x8) (shapeCast S32x1024 ev shapeCasts_S32x1024_S32x1024) (shapeCast S1024x32 sv shapeCasts_S1024x32_S1024x32) i PO)
    (firstPO arg0 X B (shapeCast S64x8 cv shapeCasts_S1x64x8_S64x8) (shapeCast S32x1024 ev shapeCasts_S32x1024_S32x1024) (shapeCast S1024x32 sv shapeCasts_S1024x32_S1024x32)
      (chainsOf po.1, chainsOf po.2))

/-- The chains' buffers after a phase. -/
def phasePO (arg0 : BitVec 32) (X : Vec F S512x1024 .f32) (B : Vec F S64x8 .f32) (cv : Vec F S1x64x8 .f32) (ev : Vec F S32x1024 .f32) (sv : Vec F S1024x32 .f32)
    (po : Vec F S64x32 .f32 × Vec F S64x32 .f32) : Vec F S64x32 .f32 × Vec F S64x32 .f32 :=
  (joinC fun c => normP ((phaseChains arg0 X B cv ev sv po).1 c), joinC fun c => normO ((phaseChains arg0 X B cv ev sv po).1 c) ((phaseChains arg0 X B cv ev sv po).2 c))

section

variable (x : Memref sig .tc .vmem S512x768 .f32) (tgtM : Memref sig .tc .vmem S1x64x8 .i32) (mskP mskC : Memref sig .tc .vmem S1x64x8 .f32)
  (wt : Memref sig .tc .vmem S768x1024 .bf16) (bM : Memref sig .tc .vmem S1x1024 .f32) (eM : Memref sig .tc .vmem S32x1024 .f32)
  (sM : Memref sig .tc .vmem S1024x32 .f32) (out : Memref sig .tc .smem S1x1 .f32)
  (exP : Memref sig .tc .vmem S512x1024 .f32) (bndP : Memref sig .tc .vmem S64x8 .f32)
  (exC : Memref sig .tc .vmem S512x1024 .f32) (bndC : Memref sig .tc .vmem S64x8 .f32)
  (p o : Memref sig .tc .vmem S64x32 .f32) (tg : Memref sig .tc .smem S1x1 .f32)

/-- What the body's inputs hold. -/
abbrev insHeld (xv : Vec F S512x768 .f32) (tv : Vec F S1x64x8 .i32) (mv cv : Vec F S1x64x8 .f32) (wv : Vec F S768x1024 .bf16) (bv : Vec F S1x1024 .f32)
    (ev : Vec F S32x1024 .f32) (sv : Vec F S1024x32 .f32) : sProp 𝕄 :=
  iprop(owns (Val := Elt F) (c : Thread nD τ) x fullShare xv ∗ owns (c : Thread nD τ) tgtM fullShare tv ∗ owns (c : Thread nD τ) mskP fullShare mv
    ∗ owns (c : Thread nD τ) mskC fullShare cv ∗ owns (c : Thread nD τ) wt fullShare wv ∗ owns (c : Thread nD τ) bM fullShare bv
    ∗ owns (c : Thread nD τ) eM fullShare ev ∗ owns (c : Thread nD τ) sM fullShare sv)

/-- One phase: the produced block held, the consumed block kept, the chains and the energy as the phase's functions say. -/
theorem run_phase (xv : Vec F S512x768 .f32) (tv : Vec F S1x64x8 .i32) (mv cv : Vec F S1x64x8 .f32) (wv : Vec F S768x1024 .bf16) (bv : Vec F S1x1024 .f32)
    (ev : Vec F S32x1024 .f32) (sv : Vec F S1024x32 .f32) (X : Vec F S512x1024 .f32) (B : Vec F S64x8 .f32) (Y : Vec F S512x1024 .f32) (D : Vec F S64x8 .f32)
    (po : Vec F S64x32 .f32 × Vec F S64x32 .f32) (t0 : F .f32) (arg0 : BitVec 32) (k : Pr F PUnit) :
    iprop(insHeld c x tgtM mskP mskC wt bM eM sM xv tv mv cv wv bv ev sv
      ∗ owns (Val := Elt F) (c : Thread nD τ) exP fullShare X ∗ owns (c : Thread nD τ) bndP fullShare B
      ∗ owns (c : Thread nD τ) exC fullShare Y ∗ owns (c : Thread nD τ) bndC fullShare D
      ∗ owns (c : Thread nD τ) p fullShare po.1 ∗ owns (c : Thread nD τ) o fullShare po.2
      ∗ owns (c : Thread nD τ) tg fullShare (fun _ => t0)
      ∗ (∀ X' B', ⌜Holds (scoresV xv wv bv) X' B' (fun _ => True)⌝ -∗ insHeld c x tgtM mskP mskC wt bM eM sM xv tv mv cv wv bv ev sv
        -∗ owns (c : Thread nD τ) exP fullShare X' -∗ owns (c : Thread nD τ) bndP fullShare B'
        -∗ owns (c : Thread nD τ) exC fullShare Y -∗ owns (c : Thread nD τ) bndC fullShare D
        -∗ owns (c : Thread nD τ) p fullShare (phasePO arg0 Y D cv ev sv po).1 -∗ owns (c : Thread nD τ) o fullShare (phasePO arg0 Y D cv ev sv po).2
        -∗ owns (c : Thread nD τ) tg fullShare (fun _ => phaseTg arg0 (scoresV xv wv bv) tv mv t0) -∗ WP c k Q))
      ⊢ WP c (phase x tgtM mskP mskC wt bM eM sM exP bndP exC bndC p o tg arg0 k) Q := by
  have z2 : ∀ a, (![0, 0] : Fin 2 → Nat) a = 0 := by decide
  have z3 : ∀ a, (![0, 0, 0] : Fin 3 → Nat) a = 0 := by decide
  iintro ⟨⟨Hx, Ht, Hm, Hc, Hw, Hb, He, Hs⟩, HX, HB, HY, HD, Hp, Ho, Htg, K⟩
  unfold phase phasePO phaseChains phaseTg
  iapply (run_ld c Q) $$ Hx; iintro Hx; rw [window_whole (s := S512x768) xv _ z2]
  iapply (run_ld c Q) $$ Hw; iintro Hw; rw [window_whole (s := S768x1024) wv _ z2]
  iapply (run_ld c Q) $$ Hb; iintro Hb; rw [window_whole (s := S1x1024) bv _ z2]
  iapply (run_ld c Q) $$ Ht; iintro Ht; rw [window_whole (s := S1x64x8) tv _ z3]
  iapply (run_ld c Q) $$ Hm; iintro Hm; rw [window_whole (s := S1x64x8) mv _ z3]
  iapply (run_ldS c Q) $$ Htg; iintro Htg
  iapply (run_prodAll c Q exP bndP (scoresV xv wv bv) _ [0, 1, 2, 3, 4, 5, 6, 7] (fun _ => False) X B (fun _ h => h.elim))
  isplitl [HX]; · iexact HX
  isplitl [HB]; · iexact HB
  iintro %X' %B' %hX HX HB
  iapply (run_ldS c Q) $$ Htg; iintro Htg
  iapply (run_stS c Q) $$ Htg; iintro Htg
  iapply (run_ld c Q) $$ Hc; iintro Hc; rw [window_whole (s := S1x64x8) cv _ z3]
  iapply (run_ld c Q) $$ He; iintro He; rw [window_whole (s := S32x1024) ev _ z2]
  iapply (run_ld c Q) $$ Hs; iintro Hs; rw [window_whole (s := S1024x32) sv _ z2]
  iapply (run_loadChains c Q) $$ Hp; iintro Hp
  iapply (run_loadChains c Q) $$ Ho; iintro Ho
  iapply (run_consFirst c Q exC bndC Y D arg0 _ _ _ _ (chainsOf po.1, chainsOf po.2))
  isplitl [HY]; · iexact HY
  isplitl [HD]; · iexact HD
  iintro HY HD
  iapply (run_consAll c Q exC bndC Y D _ _ _ _ [1, 2, 3, 4, 5, 6, 7] (firstPO arg0 Y D _ _ _ (chainsOf po.1, chainsOf po.2)))
  isplitl [HY]; · iexact HY
  isplitl [HD]; · iexact HD
  iintro HY HD
  iapply (run_storeChains c Q p o _ _ k [0, 1, 2, 3] (fun _ => False) po.1 po.2 (fun _ h => h.elim) (fun _ h => h.elim))
  isplitl [Hp]; · iexact Hp
  isplitl [Ho]; · iexact Ho
  iintro %p' %o' %h Hp Ho
  have hall : ∀ i : Fin 4, i ∈ ([0, 1, 2, 3] : List (Fin 4)) ∨ False := by decide
  obtain ⟨h1, h2⟩ := h
  have e1 := h1.eq_join hall
  have e2 := h2.eq_join hall
  subst e1 e2
  iapply K $$ %X' %B' [] [Hx Ht Hm Hc Hw Hb He Hs] HX HB HY HD Hp Ho Htg
  · ipureintro
    intro i _
    exact hX i (by revert i; decide)
  · isplitl [Hx]; · iexact Hx
    isplitl [Ht]; · iexact Ht
    isplitl [Hm]; · iexact Hm
    isplitl [Hc]; · iexact Hc
    isplitl [Hw]; · iexact Hw
    isplitl [Hb]; · iexact Hb
    isplitl [He]; · iexact He
    iexact Hs

/-- The last point's store: the result's word is the loss of what the chains and the energy hold. -/
theorem run_lastStore (pv ov : Vec F S64x32 .f32) (t : F .f32) (Z : S1x1.Idx → Elt F .f32) (w : F .f32) :
    iprop(owns (Val := Elt F) (c : Thread nD τ) p fullShare pv ∗ owns (c : Thread nD τ) o fullShare ov ∗ owns (c : Thread nD τ) tg fullShare (fun _ => t)
      ∗ owns (c : Thread nD τ) out fullShare (fun _ => w)
      ∗ (owns (c : Thread nD τ) p fullShare pv -∗ owns (c : Thread nD τ) o fullShare ov -∗ owns (c : Thread nD τ) tg fullShare (fun _ => t)
        -∗ owns (c : Thread nD τ) out fullShare (fun _ => lossV pv ov t) -∗ Q ⟨⟩))
      ⊢ WP c (lastStore out p o tg) Q := by
  have z2 : ∀ a, (![0, 0] : Fin 2 → Nat) a = 0 := by decide
  iintro ⟨Hp, Ho, Htg, Hout, K⟩
  unfold lastStore
  iapply (run_ld c Q) $$ Hp; iintro Hp; rw [window_whole (s := S64x32) pv _ z2]
  iapply (run_ld c Q) $$ Ho; iintro Ho; rw [window_whole (s := S64x32) ov _ z2]
  iapply (run_ldS c Q) $$ Htg; iintro Htg
  iapply (run_ldS c Q) $$ Hout; iintro Hout
  iapply (run_stS c Q) $$ Hout; iintro Hout
  unfold WP; rw [wp_ret]; imodintro
  iapply K $$ Hp Ho Htg Hout

end

end Cert.Proof.Crf

end
-- ==== Proof.Track.lean ====
/-
  The pipeline's run, tracked: what the scratch buffers hold at each of the 65 points as a function of the arguments'
  blocks, the proof data that says so, and the launch.
-/
module

public import proofs.«01_k».proof.Proof.Phase
public import proofs.«01_k».proof.Proof.Gen.KernelIdeal.Frame

@[expose] public section

set_option maxRecDepth 16384

noncomputable section

namespace Cert.Proof.Crf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀
open VecWindow

variable {F : FTy → Type} [FloatOps F]

local notation "𝕄" => MT nD τ sig Unit (Elt F) ℕ (UR sig nD τ) ℕ

/-! ## A block's buffers, as functions of its scores -/

/-- A row and a column of a step's tile. -/
def tileIdx (y : S512x1024.Idx) : S64x1024.Idx := fun a => match a with
  | ⟨0, _⟩ => ⟨(y 0).val % 64, Nat.mod_lt _ (by decide)⟩
  | ⟨1, _⟩ => y 1
/-- The step of a row. -/
def stepOf (y : S512x1024.Idx) : Fin 8 := ⟨(y 0).val / 64, by have h : (y 0).val < 512 := (y 0).isLt; omega⟩
/-- A row of a step's column. -/
def colIdx (y : S64x8.Idx) : S64x1.Idx := fun a => match a with
  | ⟨0, _⟩ => y 0
  | ⟨1, _⟩ => ⟨0, Nat.one_pos⟩

/-- The buffer of exponentials of a block of scores. -/
def exBuf (sc : FVec F S512x1024 .f32) : Vec F S512x1024 .f32 := fun y => expV (tileV sc (stepOf y)) (tileIdx y)
/-- The buffer of bounds of a block of scores. -/
def bndBuf (sc : FVec F S512x1024 .f32) : Vec F S64x8 .f32 := fun y => boundV (tileV sc (y 1)) (colIdx y)

/-- Buffers that hold a block are its buffers. -/
theorem Holds.eq {sc : FVec F S512x1024 .f32} {X : Vec F S512x1024 .f32} {B : Vec F S64x8 .f32} (h : Holds sc X B (fun _ => True)) :
    X = exBuf sc ∧ B = bndBuf sc := by
  constructor
  · funext y
    have hy : (y 0).val < 512 := (y 0).isLt
    rw [exBuf, ← (h (stepOf y) trivial).1]
    refine congrArg X (funext fun a => Fin.ext ?_)
    fin_cases a
    · show (y 0).val = 64 * ((y 0).val / 64) + 1 * ((y 0).val % 64); omega
    · show (y 1).val = 0 + 1 * (y 1).val; omega
  · funext y
    rw [bndBuf, ← (h (y 1) trivial).2]
    refine congrArg B (funext fun a => Fin.ext ?_)
    fin_cases a
    · show (y 0).val = 0 + 1 * (y 0).val; omega
    · show (y 1).val = (y 1).val + 1 * 0; omega

/-! ## The state along the grid -/

variable (m : (ℓ : Loc nD τ sig) → Buf (Elt F) ℓ) (ρ : Dev nD → PrngReg)

/-- The grid's point of a number. -/
def pt (n : ℕ) : Fin cfg0.N := ⟨n % 65, Nat.mod_lt _ (by decide)⟩

/-- A point is the point of its number. -/
theorem pt_val (t : Fin cfg0.N) : pt t.val = t := Fin.ext (Nat.mod_eq_of_lt t.isLt)

/-- The features' block at a point; -/
def xB (c : Dev nD) (t : Fin cfg0.N) : Vec F S512x768 .f32 := iblk m c 0 t
/-- the targets'; -/
def tB (c : Dev nD) (t : Fin cfg0.N) : Vec F S1x64x8 .i32 := iblk m c 1 t
/-- the mask's, for the produced block; -/
def mB (c : Dev nD) (t : Fin cfg0.N) : Vec F S1x64x8 .f32 := iblk m c 2 t
/-- the mask's, for the consumed block; -/
def cB (c : Dev nD) (t : Fin cfg0.N) : Vec F S1x64x8 .f32 := iblk m c 3 t
/-- the transposed weights; -/
def wB (c : Dev nD) (t : Fin cfg0.N) : Vec F S768x1024 .bf16 := iblk m c 4 t
/-- the bias; -/
def bB (c : Dev nD) (t : Fin cfg0.N) : Vec F S1x1024 .f32 := iblk m c 5 t
/-- the expanding matrix; -/
def eB (c : Dev nD) (t : Fin cfg0.N) : Vec F S32x1024 .f32 := iblk m c 6 t
/-- and the summing matrix. -/
def sB (c : Dev nD) (t : Fin cfg0.N) : Vec F S1024x32 .f32 := iblk m c 7 t

/-- The scores produced at a point. -/
def scAt (c : Dev nD) (n : ℕ) : FVec F S512x1024 .f32 := scoresV (xB m c (pt n)) (wB m c (pt n)) (bB m c (pt n))

/-- The target's energy before a point. -/
def tgAt (c : Dev nD) : ℕ → F .f32
  | 0 => Scalar.ofBits .f32 0x00000000#32
  | n + 1 => phaseTg (BitVec.ofNat 32 n) (scAt m c n) (tB m c (pt n)) (mB m c (pt n)) (tgAt c n)

/-- The chains' buffers before a point (from point 2 on). -/
def poAt (c : Dev nD) : ℕ → Vec F S64x32 .f32 × Vec F S64x32 .f32
  | 0 => (fun _ => Scalar.ofBits .f32 0x00000000#32, fun _ => Scalar.ofBits .f32 0x00000000#32)
  | n + 1 => phasePO (BitVec.ofNat 32 n) (exBuf (scAt m c (n - 1))) (bndBuf (scAt m c (n - 1))) (cB m c (pt n)) (eB m c (pt n)) (sB m c (pt n)) (poAt c n)

/-- The result's word. -/
def lossAt (c : Dev nD) : F .f32 := lossV (poAt m c 65).1 (poAt m c 65).2 (tgAt m c 65)

/-- At the first point the energy starts anew. -/
theorem phaseTg_zero (sc : FVec F S512x1024 .f32) (tv : Vec F S1x64x8 .i32) (mv : Vec F S1x64x8 .f32) (t t' : F .f32) :
    phaseTg 0#32 sc tv mv t = phaseTg 0#32 sc tv mv t' := by
  unfold phaseTg
  rw [show (Scalar.cmpi .eq (0#32) 0#32) = 1#1 from rfl]
  rfl

/-- At the second point the chains start anew. -/
theorem phasePO_one (X : Vec F S512x1024 .f32) (B : Vec F S64x8 .f32) (cv : Vec F S1x64x8 .f32) (ev : Vec F S32x1024 .f32) (sv : Vec F S1024x32 .f32)
    (po po' : Vec F S64x32 .f32 × Vec F S64x32 .f32) : phasePO 1#32 X B cv ev sv po = phasePO 1#32 X B cv ev sv po' := by
  have h : phaseChains 1#32 X B cv ev sv po = phaseChains 1#32 X B cv ev sv po' := by
    unfold phaseChains firstPO
    rw [show (Scalar.cmpi .eq (1#32) 1#32) = 1#1 from rfl]
    rfl
  unfold phasePO; rw [h]

/-- What the scratch buffers hold before point `n`. -/
def Inv (c : Dev nD) (n : ℕ) (Xa Xb : Vec F S512x1024 .f32) (Ba Bb : Vec F S64x8 .f32) (po : Vec F S64x32 .f32 × Vec F S64x32 .f32) (t : F .f32) : Prop :=
  (0 < n → t = tgAt m c n) ∧ (1 < n → po = poAt m c n)
    ∧ (n % 2 = 1 → Xa = exBuf (scAt m c (n - 1)) ∧ Ba = bndBuf (scAt m c (n - 1)))
    ∧ (0 < n → n % 2 = 0 → Xb = exBuf (scAt m c (n - 1)) ∧ Bb = bndBuf (scAt m c (n - 1)))

/-- The invariant after a phase that produced into one pair of buffers and consumed the other. -/
theorem Inv.next {c : Dev nD} {n : ℕ} (hn : n < 65) {Xa Xb : Vec F S512x1024 .f32} {Ba Bb : Vec F S64x8 .f32} {po : Vec F S64x32 .f32 × Vec F S64x32 .f32} {t : F .f32}
    (h : Inv m c n Xa Xb Ba Bb po t) :
    phaseTg (BitVec.ofNat 32 n) (scAt m c n) (tB m c (pt n)) (mB m c (pt n)) t = tgAt m c (n + 1)
    ∧ (n % 2 = 0 → 1 < n + 1 → phasePO (BitVec.ofNat 32 n) Xb Bb (cB m c (pt n)) (eB m c (pt n)) (sB m c (pt n)) po = poAt m c (n + 1))
    ∧ (n % 2 = 1 → phasePO (BitVec.ofNat 32 n) Xa Ba (cB m c (pt n)) (eB m c (pt n)) (sB m c (pt n)) po = poAt m c (n + 1)) := by
  obtain ⟨h1, h2, h3, h4⟩ := h
  refine ⟨?_, ?_, ?_⟩
  · rcases Nat.eq_zero_or_pos n with h0 | h0
    · subst h0; exact phaseTg_zero _ _ _ _ _
    · rw [h1 h0]; rfl
  · intro he hp
    obtain ⟨e1, e2⟩ := h4 (by omega) he
    rw [e1, e2, h2 (by omega)]; rfl
  · intro ho
    obtain ⟨e1, e2⟩ := h3 ho
    rw [e1, e2]
    rcases Nat.lt_or_ge 1 n with h0 | h0
    · rw [h2 h0]; rfl
    · have : n = 1 := by omega
      subst this; exact phasePO_one _ _ _ _ _ _ _

/-! ## The pipeline's proof data -/

/-- The invariant before point `n`: the scratch buffers hold what `Inv` says, and the random-number register is held. -/
def Φc (c : Dev nD) (n : ℕ) : sProp 𝕄 :=
  iprop((∃ Xa Xb Ba Bb p o t, ⌜Inv m c n Xa Xb Ba Bb (p, o) t⌝
      ∗ owns (Val := Elt F) (c : Thread nD τ) (Memref.whole cc0_scratch0) fullShare Xa ∗ owns (c : Thread nD τ) (Memref.whole cc0_scratch1) fullShare Xb
      ∗ owns (c : Thread nD τ) (Memref.whole cc0_scratch2) fullShare Ba ∗ owns (c : Thread nD τ) (Memref.whole cc0_scratch3) fullShare Bb
      ∗ owns (c : Thread nD τ) (Memref.whole cc0_scratch4) fullShare p ∗ owns (c : Thread nD τ) (Memref.whole cc0_scratch5) fullShare o
      ∗ owns (c : Thread nD τ) (Memref.whole cc0_scratch6) fullShare (fun _ => t)) ∗ ∃ r, prngReg c r)

/-- The proof data on core `c`: the arrays at their entry contents, the inputs' blocks left in place, the result's word
    at the last point the loss. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (fun _ => lossAt m c : S1x1.Idx → Elt F .f32)
  Φ t := Φc m c t.val
  q w := Pipeline.shareOf spec0 w
  owed _ := 0

/-- A window's array at the region's entry. -/
theorem A_eq (c : Dev nD) (w : Fin cfg0.W) : (dats m 0 c).A w = V m c (Pipeline.arrRef spec0 w) := by
  dsimp only [dats]

/-! ## The points' conditions -/

/-- The grid's coordinate is the point's number. -/
theorem coords_val : ∀ t : Fin 65, ((grid0.coords t) 0).val = t.val := by decide
/-- The first phase runs at even points. -/
theorem even_iff : ∀ n : Fin 65, (Scalar.cmpi .ne (Scalar.extui (Scalar.cmpi .eq (Scalar.remsi (BitVec.ofNat 32 n.val) 2#32) 0#32) : BitVec 32) 0#32 = 1#1) ↔ n.val % 2 = 0 := by decide
/-- The second phase runs at odd points. -/
theorem odd_iff : ∀ n : Fin 65, (Scalar.cmpi .ne (Scalar.extui (Scalar.cmpi .eq (Scalar.remsi (BitVec.ofNat 32 n.val) 2#32) 1#32) : BitVec 32) 0#32 = 1#1) ↔ n.val % 2 = 1 := by decide
/-- The result is written at the last point. -/
theorem last_iff : ∀ n : Fin 65, k0_cond3 (grid0.coords n) = 1#1 ↔ n.val = 64 := by decide

/-! ## The body at a point -/

/-- The result's word at a point: some word before the last, the loss there. -/
def outPost (c : Dev nD) (n : ℕ) (Z : S1x1.Idx → Elt F .f32) : S1x1.Idx → Elt F .f32 :=
  if n = 64 then fun _ => lossAt m c else Z

/-- One word's contents are a constant function. -/
theorem oneWord (Z : S1x1.Idx → Elt F .f32) : Z = fun _ => Z (fun a => ⟨0, by fin_cases a <;> exact Nat.one_pos⟩) := by
  funext y
  refine congrArg Z (funext fun a => Fin.ext ?_)
  have hy : (y a).val < S1x1.size a := (y a).isLt
  fin_cases a
  · have h : (y 0).val < 1 := (y 0).isLt
    show (y 0).val = 0; omega
  · have h : (y 1).val < 1 := (y 1).isLt
    show (y 1).val = 0; omega

section Body

variable (x : Memref sig .tc .vmem S512x768 .f32) (tgtM : Memref sig .tc .vmem S1x64x8 .i32) (mskP mskC : Memref sig .tc .vmem S1x64x8 .f32)
  (wt : Memref sig .tc .vmem S768x1024 .bf16) (bM : Memref sig .tc .vmem S1x1024 .f32) (eM : Memref sig .tc .vmem S32x1024 .f32)
  (sM : Memref sig .tc .vmem S1024x32 .f32) (out : Memref sig .tc .smem S1x1 .f32)

/-- The inputs' staging buffers at point `t`, holding their blocks. -/
abbrev insAt (c : Dev nD) (t : Fin cfg0.N) : sProp 𝕄 :=
  insHeld c x tgtM mskP mskC wt bM eM sM (xB m c t) (tB m c t) (mB m c t) (cB m c t) (wB m c t) (bB m c t) (eB m c t) (sB m c t)

/-- The last point's store, at any point: the invariant after the point given, the word is as `outPost` says. -/
theorem run_last (c : Dev nD) (t : Fin cfg0.N) (Q : PUnit.{1} → sProp (MT nD τ sig Unit (Elt F) ℕ (UR sig nD τ) ℕ))
    (Z : S1x1.Idx → Elt F .f32) (po : Vec F S64x32 .f32 × Vec F S64x32 .f32) (v : F .f32) (hpo : 0 < t.val → po = poAt m c (t.val + 1)) (hv : v = tgAt m c (t.val + 1)) :
    iprop(owns (Val := Elt F) (c : Thread nD τ) (Memref.whole cc0_scratch4) fullShare po.1 ∗ owns (c : Thread nD τ) (Memref.whole cc0_scratch5) fullShare po.2
      ∗ owns (c : Thread nD τ) (Memref.whole cc0_scratch6) fullShare (fun _ => v) ∗ owns (c : Thread nD τ) out fullShare Z
      ∗ (owns (c : Thread nD τ) (Memref.whole cc0_scratch4) fullShare po.1 -∗ owns (c : Thread nD τ) (Memref.whole cc0_scratch5) fullShare po.2
        -∗ owns (c : Thread nD τ) (Memref.whole cc0_scratch6) fullShare (fun _ => v) -∗ owns (c : Thread nD τ) out fullShare (outPost m c t.val Z) -∗ Q ⟨⟩))
      ⊢ WP c (if _h : k0_cond3 (grid0.coords t) = 1#1 then lastStore out (Memref.whole cc0_scratch4) (Memref.whole cc0_scratch5) (Memref.whole cc0_scratch6) else .ret ⟨⟩) Q := by
  by_cases h : t.val = 64
  · rw [dif_pos ((last_iff t).mpr h), oneWord Z]
    unfold outPost; rw [if_pos h]
    have e : lossAt m c = lossV po.1 po.2 v := by
      rw [hpo (by omega), hv, h]; rfl
    rw [e]
    exact run_lastStore c Q out _ _ _ po.1 po.2 v Z _
  · rw [dif_neg (fun hh => h ((last_iff t).mp hh))]
    unfold outPost; rw [if_neg h]
    iintro ⟨Hp, Ho, Ht, Hout, K⟩
    unfold WP; rw [wp_ret]; imodintro
    iapply K $$ Hp Ho Ht Hout

/-- The body at a point: the invariant carried to the next point, the inputs kept. -/
theorem run_body (c : Dev nD) (t : Fin cfg0.N) (Q : PUnit.{1} → sProp (MT nD τ sig Unit (Elt F) ℕ (UR sig nD τ) ℕ)) (Z : S1x1.Idx → Elt F .f32) :
    iprop(Φc m c t.val ∗ insAt m x tgtM mskP mskC wt bM eM sM c t ∗ owns (c : Thread nD τ) out fullShare Z
      ∗ (Φc m c (t.val + 1) -∗ insAt m x tgtM mskP mskC wt bM eM sM c t -∗ owns (c : Thread nD τ) out fullShare (outPost m c t.val Z) -∗ Q ⟨⟩))
      ⊢ WP c (body (grid0.coords t) x tgtM mskP mskC wt bM eM sM out (Memref.whole cc0_scratch0) (Memref.whole cc0_scratch1) (Memref.whole cc0_scratch2)
          (Memref.whole cc0_scratch3) (Memref.whole cc0_scratch4) (Memref.whole cc0_scratch5) (Memref.whole cc0_scratch6)) Q := by
  have hN : t.val < 65 := t.isLt
  have hco : ((grid0.coords t) 0).val = t.val := coords_val t
  unfold Φc
  iintro ⟨⟨⟨%Xa, %Xb, %Ba, %Bb, %p, %o, %v, %hI, HXa, HXb, HBa, HBb, Hp, Ho, Hv⟩, Hg⟩, Hins, Hout, K⟩
  obtain ⟨n1, n2, n3⟩ := hI.next m hN
  have hs : scAt m c t.val = scoresV (xB m c t) (wB m c t) (bB m c t) := by unfold scAt; rw [pt_val]
  rw [hs] at n1
  rw [pt_val] at n1 n2 n3
  unfold body evenC oddC
  rw [hco]
  rcases Nat.mod_two_eq_zero_or_one t.val with he | ho
  · rw [dif_pos ((even_iff t).mpr he), dif_neg (fun hh => absurd ((odd_iff t).mp hh) (by omega))]
    iapply (run_phase c Q x tgtM mskP mskC wt bM eM sM (Memref.whole cc0_scratch0) (Memref.whole cc0_scratch2) (Memref.whole cc0_scratch1) (Memref.whole cc0_scratch3)
      (Memref.whole cc0_scratch4) (Memref.whole cc0_scratch5) (Memref.whole cc0_scratch6)
      (xB m c t) (tB m c t) (mB m c t) (cB m c t) (wB m c t) (bB m c t) (eB m c t) (sB m c t)
      Xa Ba Xb Bb (p, o) v (BitVec.ofNat 32 t.val) _)
    isplitl [Hins]; · iexact Hins
    isplitl [HXa]; · iexact HXa
    isplitl [HBa]; · iexact HBa
    isplitl [HXb]; · iexact HXb
    isplitl [HBb]; · iexact HBb
    isplitl [Hp]; · iexact Hp
    isplitl [Ho]; · iexact Ho
    isplitl [Hv]; · iexact Hv
    iintro %X' %B' %hX Hins HXa HBa HXb HBb Hp Ho Hv
    iapply (run_last m out c t Q Z _ _ (fun h0 => n2 he (by omega)) n1)
    isplitl [Hp]; · iexact Hp
    isplitl [Ho]; · iexact Ho
    isplitl [Hv]; · iexact Hv
    isplitl [Hout]; · iexact Hout
    iintro Hp Ho Hv Hout
    iapply K $$ [HXa HXb HBa HBb Hp Ho Hv Hg] Hins Hout
    isplitl [HXa HXb HBa HBb Hp Ho Hv]
    · iexists X', Xb, B', Bb, _, _, _
      isplitr
      · ipureintro
        refine ⟨fun _ => n1, fun h1 => n2 he h1, fun _ => ?_, fun _ h => by omega⟩
        rw [Nat.add_sub_cancel, hs]; exact hX.eq
      isplitl [HXa]; · iexact HXa
      isplitl [HXb]; · iexact HXb
      isplitl [HBa]; · iexact HBa
      isplitl [HBb]; · iexact HBb
      isplitl [Hp]; · iexact Hp
      isplitl [Ho]; · iexact Ho
      iexact Hv
    iexact Hg
  · rw [dif_neg (fun hh => absurd ((even_iff t).mp hh) (by omega)), dif_pos ((odd_iff t).mpr ho)]
    iapply (run_phase c Q x tgtM mskP mskC wt bM eM sM (Memref.whole cc0_scratch1) (Memref.whole cc0_scratch3) (Memref.whole cc0_scratch0) (Memref.whole cc0_scratch2)
      (Memref.whole cc0_scratch4) (Memref.whole cc0_scratch5) (Memref.whole cc0_scratch6)
      (xB m c t) (tB m c t) (mB m c t) (cB m c t) (wB m c t) (bB m c t) (eB m c t) (sB m c t)
      Xb Bb Xa Ba (p, o) v (BitVec.ofNat 32 t.val) _)
    isplitl [Hins]; · iexact Hins
    isplitl [HXb]; · iexact HXb
    isplitl [HBb]; · iexact HBb
    isplitl [HXa]; · iexact HXa
    isplitl [HBa]; · iexact HBa
    isplitl [Hp]; · iexact Hp
    isplitl [Ho]; · iexact Ho
    isplitl [Hv]; · iexact Hv
    iintro %X' %B' %hX Hins HXb HBb HXa HBa Hp Ho Hv
    iapply (run_last m out c t Q Z _ _ (fun _ => n3 ho) n1)
    isplitl [Hp]; · iexact Hp
    isplitl [Ho]; · iexact Ho
    isplitl [Hv]; · iexact Hv
    isplitl [Hout]; · iexact Hout
    iintro Hp Ho Hv Hout
    iapply K $$ [HXa HXb HBa HBb Hp Ho Hv Hg] Hins Hout
    isplitl [HXa HXb HBa HBb Hp Ho Hv]
    · iexists Xa, X', Ba, B', _, _, _
      isplitr
      · ipureintro
        refine ⟨fun _ => n1, fun _ => n3 ho, fun h => by omega, fun _ _ => ?_⟩
        rw [Nat.add_sub_cancel, hs]; exact hX.eq
      isplitl [HXa]; · iexact HXa
      isplitl [HXb]; · iexact HXb
      isplitl [HBa]; · iexact HBa
      isplitl [HBb]; · iexact HBb
      isplitl [Hp]; · iexact Hp
      isplitl [Ho]; · iexact Ho
      iexact Hv
    iexact Hg

end Body

end Cert.Proof.Crf

end
-- ==== Proof.Launch.lean ====
/-
  The launch: the body's obligation to the pipeline, the run of the whole program, its frame, and the result's word.
-/
module

public import proofs.«01_k».proof.Proof.Track

@[expose] public section

set_option maxRecDepth 16384

noncomputable section

namespace Cert.Proof.Crf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant at the region's ends -/

/-- A scratch buffer at some contents is owned at some contents. -/
theorem owns_of_some (c : Dev nD) (b : Ref sig .tc) :
    iprop(∃ f : Buf (Elt F) ((c : Thread nD τ).loc b), ((c : Thread nD τ).loc b) ↦{fullShare} f)
      ⊢ (iprop(∃ X, owns (Val := Elt F) (c : Thread nD τ) (Memref.whole b) fullShare X) : sProp 𝕄) := by
  simp only [owns_whole_eq]
  iintro ⟨%f, H⟩
  iexists f, f
  isplitr; · ipureintro; rfl
  iexact H

/-- The word's buffer at some contents is owned at some word. -/
theorem word_of_some (c : Dev nD) :
    iprop(∃ f : Buf (Elt F) ((c : Thread nD τ).loc cc0_scratch6), ((c : Thread nD τ).loc cc0_scratch6) ↦{fullShare} f)
      ⊢ (iprop(∃ v : F .f32, owns (Val := Elt F) (c : Thread nD τ) (Memref.whole cc0_scratch6) fullShare (fun _ => v)) : sProp 𝕄) := by
  refine (owns_of_some c cc0_scratch6).trans ?_
  iintro ⟨%X, H⟩
  have h : ∃ v : F .f32, X = fun _ => v := ⟨_, oneWord (F := F) X⟩
  obtain ⟨v, hv⟩ := h
  subst hv
  iexists v
  iexact H

/-- And back. -/
theorem some_of_owns (c : Dev nD) (b : Ref sig .tc) (X : b.ty.Contents (Elt F)) :
    (owns (Val := Elt F) (c : Thread nD τ) (Memref.whole b) fullShare X : sProp 𝕄)
      ⊢ iprop(∃ f : Buf (Elt F) ((c : Thread nD τ).loc b), ((c : Thread nD τ).loc b) ↦{fullShare} f) := by
  rw [owns_whole_eq]
  iintro ⟨%f, -, H⟩
  iexists f
  iexact H

/-- Before the first point the invariant says nothing of the buffers. -/
theorem inv_in (c : Dev nD) : Pipeline.ΦA spec0 c ⊢ Φc m c 0 := by
  unfold Pipeline.ΦA Φc
  rw [scopedRest0_eq]
  iintro ⟨⟨H0, H1, H2, H3, H4, H5, H6⟩, Hg⟩
  isplitl [H0 H1 H2 H3 H4 H5 H6]
  · ihave H0' := owns_of_some c cc0_scratch0 $$ H0
    ihave H1' := owns_of_some c cc0_scratch1 $$ H1
    ihave H2' := owns_of_some c cc0_scratch2 $$ H2
    ihave H3' := owns_of_some c cc0_scratch3 $$ H3
    ihave H4' := owns_of_some c cc0_scratch4 $$ H4
    ihave H5' := owns_of_some c cc0_scratch5 $$ H5
    ihave H6' := word_of_some c $$ H6
    icases H0' with ⟨%X0, H0⟩
    icases H1' with ⟨%X1, H1⟩
    icases H2' with ⟨%X2, H2⟩
    icases H3' with ⟨%X3, H3⟩
    icases H4' with ⟨%X4, H4⟩
    icases H5' with ⟨%X5, H5⟩
    icases H6' with ⟨%v6, H6⟩
    iexists X0, X1, X2, X3, X4, X5, v6
    isplitr
    · ipureintro
      exact ⟨fun h => absurd h (by omega), fun h => absurd h (by omega), fun h => absurd h (by omega), fun h => absurd h (by omega)⟩
    isplitl [H0]; · iexact H0
    isplitl [H1]; · iexact H1
    isplitl [H2]; · iexact H2
    isplitl [H3]; · iexact H3
    isplitl [H4]; · iexact H4
    isplitl [H5]; · iexact H5
    iexact H6
  iexact Hg

/-- After the last point the buffers are held at something. -/
theorem inv_out (c : Dev nD) (n : ℕ) : Φc m c n ⊢ Pipeline.ΦA spec0 c := by
  unfold Pipeline.ΦA Φc
  rw [scopedRest0_eq]
  iintro ⟨⟨%Xa, %Xb, %Ba, %Bb, %p, %o, %v, -, H0, H1, H2, H3, H4, H5, H6⟩, Hg⟩
  isplitl [H0 H1 H2 H3 H4 H5 H6]
  · isplitl [H0]; · iapply some_of_owns c cc0_scratch0 $$ H0
    isplitl [H1]; · iapply some_of_owns c cc0_scratch1 $$ H1
    isplitl [H2]; · iapply some_of_owns c cc0_scratch2 $$ H2
    isplitl [H3]; · iapply some_of_owns c cc0_scratch3 $$ H3
    isplitl [H4]; · iapply some_of_owns c cc0_scratch4 $$ H4
    isplitl [H5]; · iapply some_of_owns c cc0_scratch5 $$ H5
    iapply some_of_owns c cc0_scratch6 $$ H6
  iexact Hg

/-! ## The body's obligation -/

/-- The kernel's body at a point. -/
theorem defs₀_row (t : Fin cfg0.N) : defs₀ (F := F) .tc cfg0.body (cfg0.bodyArgs t (cfg0.slots t)) = bodyAt0 t := by
  unfold defs₀; rw [Defs.onTc_tc]

/-- The body's program at a point. -/
theorem bodyAt0_eq (t : Fin cfg0.N) : bodyAt0 (F := F) t
    = body (grid0.coords t) (st0_0 t) (st0_1 t) (st0_2 t) (st0_3 t) (st0_4 t) (st0_5 t) (st0_6 t) (st0_7 t) (st0_8 t)
        (Memref.whole cc0_scratch0) (Memref.whole cc0_scratch1) (Memref.whole cc0_scratch2) (Memref.whole cc0_scratch3) (Memref.whole cc0_scratch4)
        (Memref.whole cc0_scratch5) (Memref.whole cc0_scratch6) :=
  body_eq _ _ _ _ _ _ _ _ _ _ _ _ _ _ _ _ _ _ _ _ _ _ _ _ _ _ _ _ _ _ _ _ _

/-- What the result's staging buffer holds after a point. -/
theorem out_post (c : Dev nD) (t : Fin cfg0.N) (d : S1x1.Idx → Elt F .f32) :
    (owns (Val := Elt F) (c : Thread nD τ) (st0_8 t) fullShare (outPost m c t.val ((dats m 0 c).before 8 t d)) : sProp 𝕄)
      ⊢ (match cfg0.idle 8 (cfg0.grid.coords t) with
          | true =>
            match (cfg0.win 8).flush t with
            | false => iprop(∃ d, owns (c : Thread nD τ) ((cfg0.win 8).stage (cfg0.slots t 8)) fullShare ((dats m 0 c).before 8 t d))
            | true => owns (c : Thread nD τ) ((cfg0.win 8).stage (cfg0.slots t 8)) fullShare ((dats m 0 c).after 8 t)
          | false => owns (c : Thread nD τ) ((cfg0.win 8).stage (cfg0.slots t 8)) fullShare ((dats m 0 c).after 8 t)) := by
  have hN : t.val < 65 := t.isLt
  by_cases h : t.val = 64
  · have hi : cfg0.idle 8 (cfg0.grid.coords t) = false := by
      show (!(k0_cond3 (grid0.coords t) == 1#1)) = false
      rw [(last_iff t).mpr h]; rfl
    rw [hi]
    unfold outPost; rw [if_pos h]
    exact .rfl
  · have hi : cfg0.idle 8 (cfg0.grid.coords t) = true := by
      show (!(k0_cond3 (grid0.coords t) == 1#1)) = true
      have : ¬ k0_cond3 (grid0.coords t) = 1#1 := fun hh => h ((last_iff t).mp hh)
      simp [this]
    have hf : (cfg0.win 8).flush t = false := by
      rw [Bool.eq_false_iff]; intro hh
      have := (flush0_8 t).mp hh
      omega
    rw [hi, hf]
    unfold outPost; rw [if_neg h]
    iintro H
    iexists d
    iexact H

/-! The inputs' blocks are left in place. -/

/-- Window 0's block after a point is its array's. -/
theorem after0_0 (c : Dev nD) (t : Fin cfg0.N) : (dats m 0 c).after 0 t = iblk m c 0 t := by dsimp only [dats]
/-- Window 1's block after a point is its array's. -/
theorem after0_1 (c : Dev nD) (t : Fin cfg0.N) : (dats m 0 c).after 1 t = iblk m c 1 t := by dsimp only [dats]
/-- Window 2's block after a point is its array's. -/
theorem after0_2 (c : Dev nD) (t : Fin cfg0.N) : (dats m 0 c).after 2 t = iblk m c 2 t := by dsimp only [dats]
/-- Window 3's block after a point is its array's. -/
theorem after0_3 (c : Dev nD) (t : Fin cfg0.N) : (dats m 0 c).after 3 t = iblk m c 3 t := by dsimp only [dats]
/-- Window 4's block after a point is its array's. -/
theorem after0_4 (c : Dev nD) (t : Fin cfg0.N) : (dats m 0 c).after 4 t = iblk m c 4 t := by dsimp only [dats]
/-- Window 5's block after a point is its array's. -/
theorem after0_5 (c : Dev nD) (t : Fin cfg0.N) : (dats m 0 c).after 5 t = iblk m c 5 t := by dsimp only [dats]
/-- Window 6's block after a point is its array's. -/
theorem after0_6 (c : Dev nD) (t : Fin cfg0.N) : (dats m 0 c).after 6 t = iblk m c 6 t := by dsimp only [dats]
/-- Window 7's block after a point is its array's. -/
theorem after0_7 (c : Dev nD) (t : Fin cfg0.N) : (dats m 0 c).after 7 t = iblk m c 7 t := by dsimp only [dats]

/-- The body's run at a point carries what the scratch buffers hold from one point to the next. -/
theorem body_obligation (c : Dev nD) : BodyObligation (dats (F := F) m 0 c) (defs₀ (F := F)) Variants.none () Set.univ := fun t => by
  rw [bigSep_W0, bigSep_W0, defs₀_row, bodyAt0_eq]
  have hc : (dats m 0 c).Φ t.castSucc = Φc m c t.val := rfl
  have hs : (dats m 0 c).Φ t.succ = Φc m c (t.val + 1) := rfl
  rw [hc, hs]
  unfold Dat.owesAt Pipeline.owesWithin
  rw [show (dats m 0 c).owed t.castSucc = 0 from rfl, show (dats m 0 c).owed t.succ = 0 from rfl]
  have b0 := before0_0_of m (dats m 0 c) (A_eq m c 0) (after0_0 m c) t
  have b1 := before0_1_of m (dats m 0 c) (A_eq m c 1) (after0_1 m c) t
  have b2 := before0_2_of m (dats m 0 c) (A_eq m c 2) (after0_2 m c) t
  have b3 := before0_3_of m (dats m 0 c) (A_eq m c 3) (after0_3 m c) t
  have b4 := before0_4_of m (dats m 0 c) (A_eq m c 4) (after0_4 m c) t
  have b5 := before0_5_of m (dats m 0 c) (A_eq m c 5) (after0_5 m c) t
  have b6 := before0_6_of m (dats m 0 c) (A_eq m c 6) (after0_6 m c) t
  have b7 := before0_7_of m (dats m 0 c) (A_eq m c 7) (after0_7 m c) t
  simp only [b0, b1, b2, b3, b4, b5, b6, b7, after0_0, after0_1, after0_2, after0_3, after0_4, after0_5, after0_6, after0_7]
  iintro ⟨HΦ, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body m (st0_0 t) (st0_1 t) (st0_2 t) (st0_3 t) (st0_4 t) (st0_5 t) (st0_6 t) (st0_7 t) (st0_8 t) c t _ ((dats m 0 c).before 8 t d8))
  isplitl [HΦ]; · iexact HΦ
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  iintro HΦ ⟨H0, H1, H2, H3, H4, H5, H6, H7⟩ H8
  isplitl [HΦ]; · iexact HΦ
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (out_post m c t d8) $$ H8

/-! ## The run -/

set_option backward.isDefEq.respectTransparency.types false in
/-- The kernel's run: the arrays end as the points leave them. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := inv_in m) (hout := fun c => inv_out m c _)
    (Q' := _) (hQ' := fun _ h => h)

/-- The frame: the arguments end as launched, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      (((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c)),
      (((h.1 c).2 main_arg4 (Pipeline.mem_restRefs_of main_arg4 (by decide) (by decide))).trans (W_main_arg4 m (dats m) c))⟩, h.2⟩) (run_main m ρ)

end Cert.Proof.Crf

end
-- ==== Proof.Forward.lean ====
/-
  The forward recursion over the reals, and the kernel's scaled form of it for one row of the batch: positive sums `P`
  and an offset `O` with `log P + O` the recursion's logarithm. The sums are scaled back once in eight steps by their
  greatest; the bounds below show that neither constant the kernel guards its logarithms with is ever reached.
-/
module

public import Mathlib.Analysis.SpecialFunctions.Log.Basic
public import Mathlib.Analysis.Complex.Exponential
public import Mathlib.Algebra.Order.BigOperators.Group.Finset

@[expose] public section

noncomputable section

namespace Cert.Proof.Forward

open Finset

/-- The recursion in logarithms: from the start tag's row, each unmasked step a logarithm of a sum of exponentials. -/
def fwd (u : ℕ → Fin 32 → Fin 32 → ℝ) (mk : ℕ → Bool) : ℕ → Fin 32 → ℝ
  | 0 => u 0 30
  | n + 1 => fun t => if mk (n + 1) then Real.log (∑ f, Real.exp (fwd u mk n f + u (n + 1) f t)) else fwd u mk n t

/-- The greatest of a row. -/
def top {n : ℕ} (x : Fin (n + 1) → ℝ) : ℝ := univ.sup' univ_nonempty x

/-- No element is above the greatest. -/
theorem le_top {n : ℕ} (x : Fin (n + 1) → ℝ) (i : Fin (n + 1)) : x i ≤ top x := le_sup' x (mem_univ i)
/-- The greatest is an element. -/
theorem top_mem {n : ℕ} (x : Fin (n + 1) → ℝ) : ∃ i, x i = top x := by
  obtain ⟨i, _, h⟩ := exists_mem_eq_sup' (univ_nonempty (α := Fin (n + 1))) x
  exact ⟨i, h.symm⟩

/-- A row's scaled sums and its offset. -/
abbrev St : Type := (Fin 32 → ℝ) × ℝ

/-- An unmasked step of the scaled form, with bound `bd`. -/
def stepR (u : Fin 32 → Fin 32 → ℝ) (bd : ℝ) (s : St) : St := (fun t => ∑ f, s.1 f * Real.exp (u f t - bd), s.2 + bd)
/-- The scaling: over the greatest sum, or the constant where that is greater. -/
def pm (c : ℝ) (s : St) : ℝ := max (top s.1) c
/-- The scaled form, scaled back. -/
def normR (c : ℝ) (s : St) : St := (fun t => s.1 t / pm c s, s.2 + Real.log (pm c s))
/-- The scaled form's start. -/
def startR (u : Fin 32 → Fin 32 → ℝ) (bd : ℝ) : St := (fun t => Real.exp (u 30 t - bd), bd)

/-- The scaled form after step `n`. -/
def st (c : ℝ) (u : ℕ → Fin 32 → Fin 32 → ℝ) (mk : ℕ → Bool) (bd : ℕ → ℝ) : ℕ → St
  | 0 => startR (u 0) (bd 0)
  | n + 1 =>
    let s := if (n + 1) % 8 = 0 then normR c (st c u mk bd n) else st c u mk bd n
    if mk (n + 1) then stepR (u (n + 1)) (bd (n + 1)) s else s

/-- What is known of a row `s` that stands for logarithms `z`: its sums are positive, they and the offset make `z`, the greatest
    is at least `exp (-e)`, and the end tag's is no less than `exp (-84)` of any. -/
structure Good (e : ℝ) (z : Fin 32 → ℝ) (s : St) : Prop where
  pos : ∀ t, 0 < s.1 t
  log : ∀ t, Real.log (s.1 t) + s.2 = z t
  big : ∃ t, Real.exp (-e) ≤ s.1 t
  last : ∀ f, Real.exp (-84) * s.1 f ≤ s.1 31

/-- The scores of a step lie within the gaps: `mx` is no less than any, each tag has a transition within 5 of it and its
    transition to the end tag within 80. -/
structure Gaps (u : Fin 32 → Fin 32 → ℝ) (mx : ℝ) : Prop where
  le : ∀ f t, u f t ≤ mx
  near : ∀ f, ∃ t, mx - 5 ≤ u f t
  last : ∀ f, mx - 80 ≤ u f 31

/-- The bounds on a scaled form hold with more room. -/
theorem Good.mono {e e' : ℝ} {z : Fin 32 → ℝ} {s : St} (h : Good e z s) (he : e ≤ e') : Good e' z s :=
  ⟨h.pos, h.log, by obtain ⟨t, ht⟩ := h.big; exact ⟨t, (Real.exp_le_exp.mpr (by linarith)).trans ht⟩, h.last⟩

/-- Thirty-two is less than `exp 4`. -/
theorem le_exp4 : (32 : ℝ) ≤ Real.exp 4 := by
  have h : (2.7 : ℝ) ≤ Real.exp 1 := by
    refine le_trans ?_ (Real.sum_le_exp_of_nonneg zero_le_one 5)
    norm_num [sum_range_succ, Nat.factorial]
  have h4 : Real.exp 4 = Real.exp 1 ^ 4 := by rw [← Real.exp_nat_mul]; norm_num
  rw [h4]
  calc (32 : ℝ) ≤ 2.7 ^ 4 := by norm_num
    _ ≤ Real.exp 1 ^ 4 := pow_le_pow_left₀ (by norm_num) h 4

/-- A step keeps what is known, with `z` stepped and the greatest at most a factor `exp (-8.5)` less. -/
theorem Good.step {e : ℝ} {z : Fin 32 → ℝ} {s : St} (h : Good e z s) {u : Fin 32 → Fin 32 → ℝ} {mx lam : ℝ} (hu : Gaps u mx) (hl : lam ≤ 3.5) :
    Good (e + 8.5) (fun t => Real.log (∑ f, Real.exp (z f + u f t))) (stepR u (mx + lam) s) := by
  have hterm : ∀ t f, 0 < s.1 f * Real.exp (u f t - (mx + lam)) := fun t f => mul_pos (h.pos f) (Real.exp_pos _)
  have hge : ∀ t f, s.1 f * Real.exp (u f t - (mx + lam)) ≤ ∑ f, s.1 f * Real.exp (u f t - (mx + lam)) := fun t f =>
    single_le_sum (f := fun f => s.1 f * Real.exp (u f t - (mx + lam))) (fun i _ => (hterm t i).le) (mem_univ f)
  have hpos : ∀ t, 0 < ∑ f, s.1 f * Real.exp (u f t - (mx + lam)) := fun t => (hterm t 0).trans_le (hge t 0)
  refine ⟨hpos, fun t => ?_, ?_, fun t => ?_⟩
  · have hz : ∑ f, Real.exp (z f + u f t) = (∑ f, s.1 f * Real.exp (u f t - (mx + lam))) * Real.exp (s.2 + (mx + lam)) := by
      rw [sum_mul]
      refine sum_congr rfl fun f _ => ?_
      rw [← h.log f, mul_assoc, ← Real.exp_add]
      conv_rhs => rw [← Real.exp_log (h.pos f), ← Real.exp_add]
      congr 1; ring
    show Real.log (∑ f, s.1 f * Real.exp (u f t - (mx + lam))) + (s.2 + (mx + lam)) = _
    rw [hz, Real.log_mul (hpos t).ne' (Real.exp_pos _).ne', Real.log_exp]
  · obtain ⟨f, hf⟩ := h.big
    obtain ⟨t, ht⟩ := hu.near f
    refine ⟨t, le_trans ?_ (hge t f)⟩
    calc Real.exp (-(e + 8.5)) = Real.exp (-e) * Real.exp (-8.5) := by rw [← Real.exp_add]; congr 1; ring
      _ ≤ s.1 f * Real.exp (u f t - (mx + lam)) :=
        mul_le_mul hf (Real.exp_le_exp.mpr (by linarith)) (Real.exp_pos _).le (h.pos f).le
  · obtain ⟨f, hf⟩ := top_mem (n := 31) s.1
    have hup : ∑ g, s.1 g * Real.exp (u g t - (mx + lam)) ≤ 32 * (s.1 f * Real.exp (-lam)) := by
      calc ∑ g, s.1 g * Real.exp (u g t - (mx + lam)) ≤ ∑ _g : Fin 32, s.1 f * Real.exp (-lam) := by
            refine sum_le_sum fun g _ => mul_le_mul ?_ (Real.exp_le_exp.mpr (by have := hu.le g t; linarith)) (Real.exp_pos _).le (h.pos f).le
            rw [hf]; exact le_top (n := 31) s.1 g
        _ = 32 * (s.1 f * Real.exp (-lam)) := by rw [sum_const, card_univ, Fintype.card_fin, nsmul_eq_mul]; norm_num
    have e1 : Real.exp (-84) * (32 * (s.1 f * Real.exp (-lam))) ≤ s.1 f * Real.exp (-80 - lam) := by
      calc Real.exp (-84) * (32 * (s.1 f * Real.exp (-lam))) ≤ Real.exp (-84) * (Real.exp 4 * (s.1 f * Real.exp (-lam))) :=
            mul_le_mul_of_nonneg_left (mul_le_mul_of_nonneg_right le_exp4 (mul_pos (h.pos f) (Real.exp_pos _)).le) (Real.exp_pos _).le
        _ = s.1 f * (Real.exp (-84) * Real.exp 4 * Real.exp (-lam)) := by ring
        _ = s.1 f * Real.exp (-80 - lam) := by rw [← Real.exp_add, ← Real.exp_add]; congr 2; ring
    calc Real.exp (-84) * ∑ g, s.1 g * Real.exp (u g t - (mx + lam)) ≤ Real.exp (-84) * (32 * (s.1 f * Real.exp (-lam))) :=
          mul_le_mul_of_nonneg_left hup (Real.exp_pos _).le
      _ ≤ s.1 f * Real.exp (-80 - lam) := e1
      _ ≤ s.1 f * Real.exp (u f 31 - (mx + lam)) :=
          mul_le_mul_of_nonneg_left (Real.exp_le_exp.mpr (by have := hu.last f; linarith)) (h.pos f).le
      _ ≤ _ := hge 31 f

/-- The start is good. -/
theorem Good.start {u : Fin 32 → Fin 32 → ℝ} {mx lam : ℝ} (hu : Gaps u mx) (hl : lam ≤ 3.5) : Good 8.5 (u 30) (startR u (mx + lam)) := by
  refine ⟨fun t => Real.exp_pos _, fun t => ?_, ?_, fun t => ?_⟩
  · show Real.log (Real.exp (u 30 t - (mx + lam))) + (mx + lam) = u 30 t
    rw [Real.log_exp]; ring
  · obtain ⟨t, ht⟩ := hu.near 30
    exact ⟨t, Real.exp_le_exp.mpr (by linarith)⟩
  · show Real.exp (-84) * Real.exp _ ≤ Real.exp _
    rw [← Real.exp_add]
    exact Real.exp_le_exp.mpr (by have := hu.last 30; have := hu.le 30 t; linarith)

/-- The scaling keeps what is known, and the greatest is then one. -/
theorem Good.norm {e c : ℝ} {z : Fin 32 → ℝ} {s : St} (h : Good e z s) (he : e ≤ 68) (hc : c ≤ Real.exp (-68)) : Good 0 z (normR c s) := by
  have hge : c ≤ top (n := 31) s.1 := by
    obtain ⟨t, ht⟩ := h.big
    exact hc.trans (((Real.exp_le_exp.mpr (by linarith)).trans ht).trans (le_top (n := 31) s.1 t))
  have hpm : pm c s = top (n := 31) s.1 := max_eq_left hge
  have hpos : 0 < pm c s := by rw [hpm]; exact (h.pos 0).trans_le (le_top (n := 31) s.1 0)
  refine ⟨fun t => div_pos (h.pos t) hpos, fun t => ?_, ?_, fun t => ?_⟩
  · show Real.log (s.1 t / pm c s) + (s.2 + Real.log (pm c s)) = _
    rw [Real.log_div (h.pos t).ne' hpos.ne', ← h.log t]; ring
  · obtain ⟨t, ht⟩ := top_mem (n := 31) s.1
    refine ⟨t, ?_⟩
    show _ ≤ s.1 t / pm c s
    rw [ht, hpm, neg_zero, Real.exp_zero, div_self (by rw [← hpm]; exact hpos.ne')]
  · show Real.exp (-84) * (s.1 t / pm c s) ≤ s.1 31 / pm c s
    rw [← mul_div_assoc]
    exact div_le_div_of_nonneg_right (h.last t) hpos.le

/-- The scaled form stands for the recursion's logarithms after every step. -/
theorem st_good {c lam : ℝ} {u : ℕ → Fin 32 → Fin 32 → ℝ} (mk : ℕ → Bool) {mx : ℕ → ℝ} (hl : lam ≤ 3.5)
    (hc : c ≤ Real.exp (-68)) : ∀ n, (∀ k ≤ n, Gaps (u k) (mx k)) → Good (8.5 * ((n % 8 : ℕ) + 1 : ℝ)) (fwd u mk n) (st c u mk (fun n => mx n + lam) n)
  | 0 => fun hu => (Good.start (hu 0 le_rfl) hl).mono (by norm_num)
  | n + 1 => fun hu => by
    have ih := st_good mk hl hc n fun k hk => hu k (by omega)
    have h8 : (n % 8 : ℕ) ≤ 7 := by omega
    have h8r : ((n % 8 : ℕ) : ℝ) ≤ 7 := by exact_mod_cast h8
    have hs : Good (8.5 * ((n + 1) % 8 : ℕ)) (fwd u mk n)
        (if (n + 1) % 8 = 0 then normR c (st c u mk (fun n => mx n + lam) n) else st c u mk (fun n => mx n + lam) n) := by
      by_cases h : (n + 1) % 8 = 0
      · rw [if_pos h, h]
        exact (ih.norm (by nlinarith) hc).mono (by norm_num)
      · rw [if_neg h]
        have : (n + 1) % 8 = n % 8 + 1 := by omega
        rw [this]; push_cast; exact ih
    simp only [st, fwd]
    cases hm : mk (n + 1)
    · simp only [Bool.false_eq_true, if_false]
      exact hs.mono (by push_cast; linarith)
    · simp only [if_true]
      exact (hs.step (hu (n + 1) le_rfl) hl).mono (by linarith)

/-- The constant that guards the last logarithm is not reached, and the end tag's value is the recursion's. -/
theorem st_final {c c' lam : ℝ} {u : ℕ → Fin 32 → Fin 32 → ℝ} (mk : ℕ → Bool) {mx : ℕ → ℝ} (hl : lam ≤ 3.5)
    (hc : c ≤ Real.exp (-68)) (hc' : c' ≤ Real.exp (-84)) (hu : ∀ k ≤ 511, Gaps (u k) (mx k)) :
    let s := normR c (st c u mk (fun n => mx n + lam) 511)
    0 < s.1 31 ∧ Real.log (max (s.1 31) c') + s.2 = fwd u mk 511 31 := by
  have h := (st_good mk hl hc 511 hu).norm (by norm_num) hc
  intro s
  refine ⟨h.pos 31, ?_⟩
  obtain ⟨t, ht⟩ := h.big
  have : c' ≤ s.1 31 := by
    refine hc'.trans (le_trans ?_ (h.last t))
    rw [neg_zero, Real.exp_zero] at ht
    exact le_mul_of_one_le_right (Real.exp_pos _).le ht
  rw [max_eq_left this]
  exact h.log 31

/-- The rows' greatest positive throughout, so that the kernel may divide by it. -/
theorem pm_pos {c lam : ℝ} {u : ℕ → Fin 32 → Fin 32 → ℝ} (mk : ℕ → Bool) {mx : ℕ → ℝ} (hl : lam ≤ 3.5)
    (hc : c ≤ Real.exp (-68)) (n : ℕ) (hu : ∀ k ≤ n, Gaps (u k) (mx k)) : 0 < pm c (st c u mk (fun n => mx n + lam) n) :=
  ((st_good mk hl hc n hu).pos 0).trans_le ((le_top (n := 31) _ 0).trans (le_max_left _ _))

/-- `exp` of minus a natural number is at least a rational power. -/
theorem exp_neg_ge (n : ℕ) : (10 / 27.182818286 : ℝ) ^ n ≤ Real.exp (-n) := by
  have h : Real.exp (-(n : ℝ)) = (Real.exp (-1)) ^ n := by rw [← Real.exp_nat_mul]; congr 1; ring
  rw [h]
  refine pow_le_pow_left₀ (by norm_num) ?_ n
  rw [Real.exp_neg, inv_eq_one_div, div_le_div_iff₀ (by norm_num) (Real.exp_pos 1)]
  have h1 : Real.exp 1 ≤ 2.7182818286 := by
    refine (Real.exp_bound' zero_le_one le_rfl (n := 12) (by norm_num)).trans ?_
    norm_num [sum_range_succ, Nat.factorial]
  linarith

end Cert.Proof.Forward

end
-- ==== Proof.Reals.lean ====
/-
  Extended reals that are reals: sums, greatest elements and the operations on them, and the constants both programs use.
-/
module

public import proofs.«01_k».proof.Proof.Forward
public import Idealize.ShloMosaic.Lib.Pointwise

@[expose] public section

noncomputable section

namespace Cert.Proof.Reals

open Idealize.ShloMosaic
open Cert.Proof.Forward
open scoped BigOperators

/-- A sum of reals. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The greater of two reals. -/
theorem max_coe (x y : ℝ) : max (x : EReal) (y : EReal) = ((max x y : ℝ) : EReal) := (EReal.coe_strictMono.monotone.map_max).symm

/-- The greatest of a row of reals. -/
theorem fold_max_coe {n : ℕ} (f : Fin (n + 1) → ℝ) : Finset.univ.fold max (⊥ : EReal) (fun i => ((f i : ℝ) : EReal)) = ((top f : ℝ) : EReal) := by
  apply le_antisymm
  · exact (Finset.fold_max_le _).mpr ⟨bot_le, fun i _ => EReal.coe_le_coe_iff.mpr (le_top f i)⟩
  · obtain ⟨i, hi⟩ := top_mem f
    exact (Finset.le_fold_max _).mpr (.inr ⟨i, Finset.mem_univ i, by rw [hi]⟩)

/-- The logarithm of a positive real. -/
theorem log_pos {x : ℝ} (h : 0 < x) : Ideal.log (x : EReal) = ((Real.log x : ℝ) : EReal) := by
  rw [Ideal.log_coe, if_neg (not_le.mpr h)]

/-- A quotient of reals. -/
theorem div_real (x : ℝ) {y : ℝ} (h : y ≠ 0) : Ideal.div (x : EReal) (y : EReal) = ((x / y : ℝ) : EReal) := by
  rw [Ideal.div_coe h, ← EReal.coe_mul]; congr 1; ring

/-! ## The constants -/

/-- The constant added to each row's bound. -/
def lam : ℝ := 14536350 * (2 : ℝ) ^ (-22 : ℤ)
/-- The constant that guards the scaling. -/
def c30 : ℝ := 10633824 * (2 : ℝ) ^ (-123 : ℤ)
/-- The constant that guards the last logarithm. -/
def c38 : ℝ := 7136238 * (2 : ℝ) ^ (-149 : ℤ)

/-- The bound's constant, near the logarithm of thirty-two. -/
theorem ofBits_lam : Ideal.ofBits .f32 0x405DCE9E#32 = ((lam : ℝ) : EReal) := by
  simp [Ideal.ofBits, Ideal.ieee, -EReal.coe_mul, lam]
/-- The scaling's constant. -/
theorem ofBits_c30 : Ideal.ofBits .f32 0x0DA24260#32 = ((c30 : ℝ) : EReal) := by
  simp [Ideal.ofBits, Ideal.ieee, -EReal.coe_mul, c30]
/-- The last logarithm's constant. -/
theorem ofBits_c38 : Ideal.ofBits .f32 0x006CE3EE#32 = ((c38 : ℝ) : EReal) := by
  simp [Ideal.ofBits, Ideal.ieee, -EReal.coe_mul, c38]
/-- Sixty-four. -/
theorem ofBits_64 : Ideal.ofBits .f32 0x42800000#32 = ((64 : ℝ) : EReal) := by
  simp [Ideal.ofBits, Ideal.ieee, -EReal.coe_mul]; norm_num
/-- Five. -/
theorem ofBits_5 : Ideal.ofBits .f32 0x40A00000#32 = ((5 : ℝ) : EReal) := by
  simp [Ideal.ofBits, Ideal.ieee, -EReal.coe_mul]; norm_num
/-- Eighty. -/
theorem ofBits_80 : Ideal.ofBits .f32 0x42A00000#32 = ((80 : ℝ) : EReal) := by
  simp [Ideal.ofBits, Ideal.ieee, -EReal.coe_mul]; norm_num
/-- Infinity. -/
theorem ofBits_inf : Ideal.ofBits .f32 0x7F800000#32 = ⊤ := by
  simp [Ideal.ofBits, Ideal.ieee]
/-- Minus infinity. -/
theorem ofBits_neg_inf : Ideal.ofBits .f32 0xFF800000#32 = ⊥ := by
  simp [Ideal.ofBits, Ideal.ieee]

/-- The bound's constant is at most three and a half. -/
theorem lam_le : lam ≤ 3.5 := by unfold lam; norm_num
/-- The scaling's constant is small. -/
theorem c30_le : c30 ≤ Real.exp (-68) := by
  refine le_trans ?_ (exp_neg_ge 68)
  unfold c30; norm_num
/-- The last logarithm's constant is small. -/
theorem c38_le : c38 ≤ Real.exp (-84) := by
  refine le_trans ?_ (exp_neg_ge 84)
  unfold c38; norm_num

/-! ## Selections -/

/-- A selection by one bit is the case split. -/
theorem select_ofBool {α : Type} (p : Prop) [Decidable p] (x y : α) : Scalar.select (BitVec.ofBool (decide p)) x y = if p then x else y := by
  by_cases h : p <;> simp [Scalar.select, h]

/-- A selection by an equality of words and a comparison. -/
theorem select_and_eq {w : ℕ} {α : Type} (a b : BitVec w) (p : Prop) [Decidable p] (x y : α) :
    Scalar.select (IntOp.andi (IntOp.cmpi .eq a b) (BitVec.ofBool (decide p))) x y = if a = b ∧ p then x else y := by
  have hb : IntOp.cmpi .eq a b = BitVec.ofBool (decide (a = b)) := by
    by_cases h' : a = b
    · subst h'; simp [IntOp.cmpi]
    · simp [IntOp.cmpi, h', beq_eq_false_iff_ne.mpr h']
  rw [hb]
  by_cases h : p <;> by_cases h' : a = b <;> simp [Scalar.select, IntOp.andi, h, h']

end Cert.Proof.Reals

end
-- ==== Proof.Data.lean ====
/-
  The two programs' arguments as real data, and the loss over them.
-/
module

public import proofs.«01_k».proof.Proof.Reals

@[expose] public section

noncomputable section

namespace Cert.Proof.Data

open Idealize.ShloMosaic
open Cert.Proof.Forward Cert.Proof.Reals
open scoped BigOperators

/-- A transition's place in a row of scores. -/
def tagPair (f t : Fin 32) : Fin 1024 := ⟨32 * f.val + t.val, by omega⟩

/-- A row of scores as a table of transitions. -/
def table (x : Fin 1024 → ℝ) : Fin 32 → Fin 32 → ℝ := fun f t => x (tagPair f t)

/-- A sum over the transitions is a sum over the tag come from and the tag gone to. -/
theorem sum_tags {M : Type} [AddCommMonoid M] (x : Fin 1024 → M) : ∑ j, x j = ∑ f : Fin 32, ∑ t : Fin 32, x (tagPair f t) := by
  rw [← Fintype.sum_prod_type' (f := fun f t => x (tagPair f t))]
  refine (Fintype.sum_equiv (finProdFinEquiv (m := 32) (n := 32)) _ _ fun p => ?_).symm
  refine congrArg x (Fin.ext ?_)
  show 32 * p.1.val + p.2.val = p.2.val + 32 * p.1.val
  omega

/-- The arguments as reals: features, weights, bias, targets and mask. -/
structure Args where
  X : Fin 512 → Fin 64 → Fin 768 → ℝ
  W : Fin 1024 → Fin 768 → ℝ
  B : Fin 1024 → ℝ
  tg : Fin 512 → Fin 64 → Fin 1024
  keep : Fin 512 → Fin 64 → Bool

/-- The arrays hold these data. -/
structure Args.Is (D : Args) (a0 : (⟨3, ![512, 64, 768]⟩ : Shape).Idx → EReal) (a1 : (⟨3, ![512, 64, 1]⟩ : Shape).Idx → BitVec 32)
    (a2 : (⟨2, ![512, 64]⟩ : Shape).Idx → BitVec 1) (a3 : (⟨2, ![1024, 768]⟩ : Shape).Idx → EReal) (a4 : (⟨1, ![1024]⟩ : Shape).Idx → EReal) : Prop where
  x : ∀ s b k, a0 (ix3 s b k) = ((D.X s b k : ℝ) : EReal)
  tg : ∀ s b, a1 (ix3 s b 0) = BitVec.ofNat 32 (D.tg s b).val
  keep : ∀ s b, a2 (ix2 s b) = 1#1 ↔ D.keep s b = true
  w : ∀ j k, a3 (ix2 j k) = ((D.W j k : ℝ) : EReal)
  b : ∀ j, a4 (ix1 j) = ((D.B j : ℝ) : EReal)

variable (D : Args)

/-- The score of transition `j` in step `s` of row `b`. -/
def Args.score (s : Fin 512) (b : Fin 64) (j : Fin 1024) : ℝ := (∑ k, D.X s b k * D.W j k) + D.B j
/-- The same at a step counted by a natural number. -/
def Args.sc (n : ℕ) (b : Fin 64) (j : Fin 1024) : ℝ := if h : n < 512 then D.score ⟨n, h⟩ b j else 0
/-- The mask at a step counted by a natural number. -/
def Args.mkN (b : Fin 64) (n : ℕ) : Bool := if h : n < 512 then D.keep ⟨n, h⟩ b else false
/-- A row's scores as tables of transitions. -/
def Args.u (b : Fin 64) (n : ℕ) : Fin 32 → Fin 32 → ℝ := table (D.sc n b)
/-- A row's greatest score in a step. -/
def Args.mx (b : Fin 64) (n : ℕ) : ℝ := top (n := 1023) (D.sc n b)
/-- The scores lie within the gaps in every step. -/
def Args.InRange : Prop := ∀ b, ∀ n ≤ 511, Gaps (D.u b n) (D.mx b n)
/-- The kernel's scaled form of a row after a step. -/
def Args.row (b : Fin 64) (n : ℕ) : St := st c30 (D.u b) (D.mkN b) (fun n => D.mx b n + lam) n
/-- The score at the target of a kept row in a step. -/
def Args.goldAt (s : Fin 512) (b : Fin 64) : ℝ := if D.keep s b then D.score s b (D.tg s b) else 0
/-- A step's scores at the targets. -/
def Args.goldN (n : ℕ) : ℝ := if h : n < 512 then ∑ b, D.goldAt ⟨n, h⟩ b else 0
/-- The target's energy. -/
def Args.gold : ℝ := ∑ s, ∑ b, D.goldAt s b
/-- The loss. -/
def Args.loss : ℝ := ((∑ b, fwd (D.u b) (D.mkN b) 511 31) - D.gold) / 64

/-- The steps' scores at the targets sum to the target's energy. -/
theorem Args.gold_eq : ∑ n ∈ Finset.range 512, D.goldN n = D.gold := by
  rw [Finset.sum_range]
  refine Finset.sum_congr rfl fun s _ => ?_
  rw [Args.goldN, dif_pos s.isLt]

end Cert.Proof.Data

end
-- ==== Proof.Value.lean ====
/-
  The kernel's value functions at the extended reals, read at an index.
-/
module

public import proofs.«01_k».proof.Proof.Track
public import proofs.«01_k».proof.Proof.Data
public import Idealize.ShloMosaic.Lib.Pointwise

@[expose] public section

noncomputable section

namespace Cert.Proof.Crf

open Cert.KernelIdeal
open Idealize.ShloMosaic
open Cert.KernelIdeal.Facts₀
open scoped BigOperators
open Cert.Proof.Forward Cert.Proof.Reals Cert.Proof.Data

variable [Facts]

/-- A block's scores at an index. -/
theorem scoresV_at (x : Vec Ideal S512x768 .f32) (wt : Vec Ideal S768x1024 .bf16) (b : Vec Ideal S1x1024 .f32) (r : Fin 512) (j : Fin 1024) :
    scoresV x wt b (ix2 r j) = (∑ k : Fin 768, x (ix2 r k) * wt (ix2 k j)) + b (ix2 0 j) := by
  pointwise [scoresV]

/-- A step's tile of the scores at an index. -/
theorem tileV_at (sc : FVec Ideal S512x1024 .f32) (i : Fin 8) (r : Fin 64) (j : Fin 1024) :
    tileV sc i (ix2 r j) = sc (ix2 ⟨64 * i.val + r.val, by omega⟩ j) := by
  pointwise [tileV]

/-- A row's bound: its greatest score and the constant. -/
theorem boundV_at (t : FVec Ideal S64x1024 .f32) (r : Fin 64) :
    boundV t (ix2 r 0) = Finset.univ.fold max ⊥ (fun k => t (ix2 r k)) + Ideal.ofBits .f32 0x405DCE9E#32 := by
  pointwise [boundV, ofBits_neg_inf]

/-- A step's sums at an index. -/
theorem carryV_at (P : FVec Ideal S16x32 .f32) (ex : Vec Ideal S16x1024 .f32) (e : FVec Ideal S32x1024 .f32) (s : FVec Ideal S1024x32 .f32) (r : Fin 16) (t : Fin 32) :
    carryV P ex e s (ix2 r t) = ∑ j : Fin 1024, (∑ f : Fin 32, P (ix2 r f) * e (ix2 f j)) * ex (ix2 r j) * s (ix2 j t) := by
  pointwise [carryV]

/-- A chain's mask at an index. -/
theorem maskC_at (msk : FVec Ideal S64x8 .f32) (i : Fin 8) (c : Fin 4) (r : Fin 16) (t : Fin 32) :
    maskC (maskV msk i) c (ix2 r t) = Ideal.cmp .ogt (msk (ix2 ⟨16 * c.val + r.val, by omega⟩ i)) 0 := by
  pointwise [maskC, maskV]

/-- A step's scores at the targets, summed over the rows. -/
theorem goldV_at (t : FVec Ideal S64x1024 .f32) (tgt : IVec S64x8 32) (msk : FVec Ideal S64x8 .f32) (i : Fin 8) :
    goldV t tgt msk i = ∑ r : Fin 64, ∑ j : Fin 1024, if BitVec.ofNat 32 j.val = tgt (ix2 r i) ∧ 0 < msk (ix2 r i) then t (ix2 r j) else 0 := by
  pointwise [goldV]
  refine Finset.sum_congr rfl fun r _ => Finset.sum_congr rfl fun j _ => ?_
  rw [select_and_eq]

/-- The scaled sums at an index. -/
theorem normP_at (P : FVec Ideal S16x32 .f32) (r : Fin 16) (t : Fin 32) :
    normP P (ix2 r t) = Ideal.div (P (ix2 r t)) (max (Finset.univ.fold max ⊥ (fun k => P (ix2 r k))) (Ideal.ofBits .f32 0x0DA24260#32)) := by
  pointwise [normP, pmaxV, ofBits_neg_inf]

/-- The offset after the scaling at an index. -/
theorem normO_at (P O : FVec Ideal S16x32 .f32) (r : Fin 16) (t : Fin 32) :
    normO P O (ix2 r t) = O (ix2 r t) + Ideal.log (max (Finset.univ.fold max ⊥ (fun k => P (ix2 r k))) (Ideal.ofBits .f32 0x0DA24260#32)) := by
  pointwise [normO, pmaxV, ofBits_neg_inf]

/-- The loss from the last sums, offsets and the target's energy. -/
theorem lossV_at (p o : Vec Ideal S64x32 .f32) (tg : Ideal .f32) :
    lossV p o tg = Ideal.div ((∑ b : Fin 64, (Ideal.log (max (p (ix2 b 31)) (Ideal.ofBits .f32 0x006CE3EE#32)) + o (ix2 b 31))) - tg) (Ideal.ofBits .f32 0x42800000#32) := by
  pointwise [lossV]
  simp only [Finset.univ_unique, Finset.sum_singleton]

/-! ## The buffers of a block of real scores -/

/-- A block's scores hold reals: row `r` of step `i` holds `S i r`. -/
def ScReal (sc : FVec Ideal S512x1024 .f32) (S : Fin 8 → Fin 64 → Fin 1024 → ℝ) : Prop :=
  ∀ (i : Fin 8) (r : Fin 64) (j : Fin 1024), sc (ix2 ⟨64 * i.val + r.val, by omega⟩ j) = ((S i r j : ℝ) : EReal)

/-- The bound, of real scores. -/
theorem boundV_real {sc : FVec Ideal S512x1024 .f32} {S : Fin 8 → Fin 64 → Fin 1024 → ℝ} (h : ScReal sc S) (i : Fin 8) (r : Fin 64) :
    boundV (tileV sc i) (ix2 r 0) = ((top (n := 1023) (S i r) + lam : ℝ) : EReal) := by
  rw [boundV_at]
  simp only [tileV_at, h i r]
  rw [fold_max_coe (n := 1023), ofBits_lam, ← EReal.coe_add]

/-- The exponentials, of real scores. -/
theorem expV_real {sc : FVec Ideal S512x1024 .f32} {S : Fin 8 → Fin 64 → Fin 1024 → ℝ} (h : ScReal sc S) (i : Fin 8) (r : Fin 64) (j : Fin 1024) :
    expV (tileV sc i) (ix2 r j) = ((Real.exp (S i r j - (top (n := 1023) (S i r) + lam)) : ℝ) : EReal) := by
  have e : expV (tileV sc i) (ix2 r j) = Ideal.exp (tileV sc i (ix2 r j) - boundV (tileV sc i) (ix2 r 0)) := by
    pointwise [expV]
  rw [e, boundV_real h, tileV_at, h i r, ← EReal.coe_sub, Ideal.exp_coe]

/-- The produced block's exponentials, of real scores. -/
theorem exBuf_real {sc : FVec Ideal S512x1024 .f32} {S : Fin 8 → Fin 64 → Fin 1024 → ℝ} (h : ScReal sc S) (i : Fin 8) (r : Fin 64) (j : Fin 1024)
    (hi : 64 * i.val + r.val < 512) :
    exBuf sc (ix2 ⟨64 * i.val + r.val, hi⟩ j) = ((Real.exp (S i r j - (top (n := 1023) (S i r) + lam)) : ℝ) : EReal) := by
  rw [← expV_real h i r j]
  have h1 : stepOf (ix2 ⟨64 * i.val + r.val, hi⟩ j) = i := Fin.ext (by show (64 * i.val + r.val) / 64 = i.val; omega)
  have h2 : tileIdx (ix2 ⟨64 * i.val + r.val, hi⟩ j) = ix2 r j := by
    refine funext fun a => Fin.ext ?_
    fin_cases a
    · show (64 * i.val + r.val) % 64 = r.val; omega
    · rfl
  show expV (tileV sc (stepOf _)) (tileIdx _) = _
  rw [h1, h2]

/-- The produced block's bounds, of real scores. -/
theorem bndBuf_real {sc : FVec Ideal S512x1024 .f32} {S : Fin 8 → Fin 64 → Fin 1024 → ℝ} (h : ScReal sc S) (r : Fin 64) (i : Fin 8) :
    bndBuf sc (ix2 r i) = ((top (n := 1023) (S i r) + lam : ℝ) : EReal) := by
  rw [← boundV_real h i r]
  have h2 : colIdx (ix2 r i) = ix2 r 0 := by
    refine funext fun a => Fin.ext ?_
    fin_cases a <;> rfl
  show boundV (tileV sc i) (colIdx _) = _
  rw [h2]

/-! ## The chains -/

/-- The chains hold reals: the sums and the offset of each row of the batch. -/
def Hold (PO : Chains Ideal × Chains Ideal) (g : Fin 64 → St) : Prop :=
  ∀ (c : Fin 4) (r : Fin 16) (t : Fin 32), PO.1 c (ix2 r t) = (((g ⟨16 * c.val + r.val, by omega⟩).1 t : ℝ) : EReal)
    ∧ PO.2 c (ix2 r t) = (((g ⟨16 * c.val + r.val, by omega⟩).2 : ℝ) : EReal)

/-- What the expanding and the summing matrix, and a block's mask, hold. -/
structure Consts (msk : FVec Ideal S64x8 .f32) (e : FVec Ideal S32x1024 .f32) (s : FVec Ideal S1024x32 .f32) (mk : Fin 8 → Fin 64 → Bool) : Prop where
  msk : ∀ (r : Fin 64) (i : Fin 8), msk (ix2 r i) = if mk i r then 1 else 0
  e : ∀ (f : Fin 32) (j : Fin 1024), e (ix2 f j) = if j.val / 32 = f.val then 1 else 0
  s : ∀ (j : Fin 1024) (t : Fin 32), s (ix2 j t) = if j.val % 32 = t.val then 1 else 0

/-- A step's sums, of reals. -/
theorem carryV_real {P : FVec Ideal S16x32 .f32} {ex : Vec Ideal S16x1024 .f32} {msk : FVec Ideal S64x8 .f32} {e : FVec Ideal S32x1024 .f32} {s : FVec Ideal S1024x32 .f32}
    {mk : Fin 8 → Fin 64 → Bool} (hc : Consts msk e s mk) (r : Fin 16) (t : Fin 32) {p : Fin 32 → ℝ} {x : Fin 1024 → ℝ}
    (hP : ∀ f, P (ix2 r f) = ((p f : ℝ) : EReal)) (hx : ∀ j, ex (ix2 r j) = ((x j : ℝ) : EReal)) :
    carryV P ex e s (ix2 r t) = ((∑ f : Fin 32, p f * x (tagPair f t) : ℝ) : EReal) := by
  rw [carryV_at, sum_tags, ← sum_coe]
  refine Finset.sum_congr rfl fun f _ => ?_
  rw [Finset.sum_eq_single t]
  · rw [Finset.sum_eq_single f]
    · rw [hc.e, hc.s, hP, hx, if_pos (by show (32 * f.val + t.val) / 32 = f.val; omega), if_pos (by show (32 * f.val + t.val) % 32 = t.val; omega),
        mul_one, mul_one, ← EReal.coe_mul]
    · intro g _ hg
      rw [hc.e, if_neg (by show ¬ (32 * f.val + t.val) / 32 = g.val; intro h; exact hg (Fin.ext (by omega))), mul_zero]
    · intro h; exact absurd (Finset.mem_univ _) h
  · intro u _ hu
    rw [hc.s, if_neg (by show ¬ (32 * f.val + u.val) % 32 = t.val; intro h; exact hu (Fin.ext (by omega))), mul_zero]
  · intro h; exact absurd (Finset.mem_univ _) h

/-- One step of the rows, where the mask keeps it. -/
def rowStep (mk : Fin 64 → Bool) (S : Fin 64 → Fin 1024 → ℝ) (g : Fin 64 → St) : Fin 64 → St :=
  fun b => if mk b then stepR (table (S b)) (top (n := 1023) (S b) + lam) (g b) else g b

section
variable {sc : FVec Ideal S512x1024 .f32} {S : Fin 8 → Fin 64 → Fin 1024 → ℝ} (h : ScReal sc S)
  {msk : FVec Ideal S64x8 .f32} {e : FVec Ideal S32x1024 .f32} {s : FVec Ideal S1024x32 .f32} {mk : Fin 8 → Fin 64 → Bool} (hc : Consts msk e s mk)
include h

/-- A chain's exponentials, of real scores. -/
theorem exOf_real (i : Fin 8) (c : Fin 4) (r : Fin 16) (j : Fin 1024) :
    exOf (exBuf sc) i c (ix2 r j) = ((Real.exp (S i ⟨16 * c.val + r.val, by omega⟩ j - (top (n := 1023) (S i ⟨16 * c.val + r.val, by omega⟩) + lam)) : ℝ) : EReal) := by
  rw [← exBuf_real h i ⟨16 * c.val + r.val, by omega⟩ j (by omega)]
  refine congrArg (exBuf sc) (funext fun a => Fin.ext ?_)
  fin_cases a
  · show 64 * i.val + 16 * c.val + 1 * r.val = 64 * i.val + (16 * c.val + r.val); omega
  · show 0 + 1 * j.val = j.val; omega

/-- A chain's start, of real scores. -/
theorem startOf_real (c : Fin 4) (r : Fin 16) (t : Fin 32) :
    startOf (exBuf sc) c (ix2 r t) = ((Real.exp (S 0 ⟨16 * c.val + r.val, by omega⟩ (tagPair 30 t) - (top (n := 1023) (S 0 ⟨16 * c.val + r.val, by omega⟩) + lam)) : ℝ) : EReal) := by
  rw [← exBuf_real h 0 ⟨16 * c.val + r.val, by omega⟩ (tagPair 30 t) (by show 64 * 0 + (16 * c.val + r.val) < 512; omega)]
  refine congrArg (exBuf sc) (funext fun a => Fin.ext ?_)
  fin_cases a
  · show 16 * c.val + 1 * r.val = 64 * 0 + (16 * c.val + r.val); omega
  · show 960 + 1 * t.val = 32 * 30 + t.val; omega

/-- A chain's bounds, of real scores. -/
theorem boundC_real (i : Fin 8) (c : Fin 4) (r : Fin 16) (t : Fin 32) :
    boundC (col (bndBuf sc) i) c (ix2 r t) = ((top (n := 1023) (S i ⟨16 * c.val + r.val, by omega⟩) + lam : ℝ) : EReal) := by
  have e1 : boundC (col (bndBuf sc) i) c (ix2 r t) = col (bndBuf sc) i (ix2 ⟨16 * c.val + r.val, by omega⟩ 0) := by
    pointwise [boundC]
  rw [e1, ← bndBuf_real h ⟨16 * c.val + r.val, by omega⟩ i]
  refine congrArg (bndBuf sc) (funext fun a => Fin.ext ?_)
  fin_cases a
  · show 0 + 1 * (16 * c.val + r.val) = 16 * c.val + r.val; omega
  · show i.val + 1 * 0 = i.val; omega

include hc

/-- A step's sums and offset are the scaled form's step. -/
theorem step_real (i : Fin 8) {P O : Chains Ideal} {g : Fin 64 → St} (hg : Hold (P, O) g) (c : Fin 4) (r : Fin 16) (t : Fin 32) :
    stepP (P c) (exOf (exBuf sc) i c) e s (maskV msk i) c (ix2 r t) = (((rowStep (mk i) (S i) g ⟨16 * c.val + r.val, by omega⟩).1 t : ℝ) : EReal)
    ∧ stepO (O c) (col (bndBuf sc) i) (maskV msk i) c (ix2 r t) = (((rowStep (mk i) (S i) g ⟨16 * c.val + r.val, by omega⟩).2 : ℝ) : EReal) := by
  have e1 : stepP (P c) (exOf (exBuf sc) i c) e s (maskV msk i) c (ix2 r t)
      = Scalar.select (maskC (maskV msk i) c (ix2 r t)) (carryV (P c) (exOf (exBuf sc) i c) e s (ix2 r t)) (P c (ix2 r t)) := rfl
  have e2 : stepO (O c) (col (bndBuf sc) i) (maskV msk i) c (ix2 r t)
      = Scalar.select (maskC (maskV msk i) c (ix2 r t)) (O c (ix2 r t) + boundC (col (bndBuf sc) i) c (ix2 r t)) (O c (ix2 r t)) := rfl
  rw [e1, e2, maskC_at, hc.msk, carryV_real hc r t (fun f => (hg c r f).1) (fun j => exOf_real h i c r j), boundC_real h,
    show P c (ix2 r t) = _ from (hg c r t).1, show O c (ix2 r t) = _ from (hg c r t).2]
  simp only [rowStep]
  cases hm : mk i ⟨16 * c.val + r.val, by omega⟩
  · simp [Ideal.cmp, Scalar.select]
  · simp [Ideal.cmp, Scalar.select, stepR, table]

/-- A step keeps the chains at the scaled form. -/
theorem consPO_real (i : Fin 8) {PO : Chains Ideal × Chains Ideal} {g : Fin 64 → St} (hg : Hold PO g) :
    Hold (consPO (exBuf sc) (bndBuf sc) msk e s i PO) (rowStep (mk i) (S i) g) :=
  fun c r t => step_real h hc i (P := PO.1) (O := PO.2) hg c r t

/-- The first step of a block but the first. -/
theorem firstPO_real {a : BitVec 32} (ha : a ≠ 1#32) {PO : Chains Ideal × Chains Ideal} {g : Fin 64 → St} (hg : Hold PO g) :
    Hold (firstPO a (exBuf sc) (bndBuf sc) msk e s PO) (rowStep (mk 0) (S 0) g) := by
  have ha' : Scalar.cmpi .eq a 1#32 = 0#1 := by
    simp [Scalar.cmpi, IntOp.cmpi, beq_eq_false_iff_ne.mpr ha]
  intro c r t
  simp only [firstPO, ha', Scalar.select]
  exact step_real h hc 0 (P := PO.1) (O := PO.2) hg c r t

omit hc in
/-- The first step of all starts the rows. -/
theorem firstPO_start (PO : Chains Ideal × Chains Ideal) :
    Hold (firstPO 1#32 (exBuf sc) (bndBuf sc) msk e s PO) (fun b => startR (table (S 0 b)) (top (n := 1023) (S 0 b) + lam)) := by
  intro c r t
  refine ⟨startOf_real h c r t, ?_⟩
  show FloatOps.addf (FloatOps.ofBits .f32 0x00000000#32 : Ideal .f32) (boundC (col (bndBuf sc) 0) c (ix2 r t)) = _
  rw [boundC_real h]
  simp [startR]

end

/-- The scaling of the rows. -/
theorem norm_real {P O : FVec Ideal S16x32 .f32} (r : Fin 16) {w : St} (hP : ∀ t, P (ix2 r t) = ((w.1 t : ℝ) : EReal)) (hO : ∀ t, O (ix2 r t) = ((w.2 : ℝ) : EReal))
    (hw : 0 < pm c30 w) (t : Fin 32) :
    normP P (ix2 r t) = (((normR c30 w).1 t : ℝ) : EReal) ∧ normO P O (ix2 r t) = (((normR c30 w).2 : ℝ) : EReal) := by
  have hm : max (Finset.univ.fold max ⊥ (fun k => P (ix2 r k))) (Ideal.ofBits .f32 0x0DA24260#32) = ((pm c30 w : ℝ) : EReal) := by
    simp only [hP]
    rw [fold_max_coe (n := 31), ofBits_c30, max_coe, pm]
  rw [normP_at, normO_at, hm, hP, hO, div_real _ hw.ne', log_pos hw, ← EReal.coe_add]
  exact ⟨rfl, rfl⟩

end Cert.Proof.Crf

end
-- ==== Proof.Blocks.lean ====
/-
  The windows' blocks at the extended reals, read at an index, in terms of the program's arguments.
-/
module

public import proofs.«01_k».proof.Proof.Value
public import proofs.«01_k».proof.Proof.Launch
public import Idealize.ShloMosaic.Lib.Pipeline.ValueKit
public import Idealize.ShloMosaic.Lib.Claim
public import Idealize.ShloMosaic.Lib.StableHlo.ReadAt
public import Idealize.ShloMosaic.Lib.Tactic.WordOmega

@[expose] public section

set_option maxRecDepth 16384

noncomputable section

namespace Cert.Proof.Crf

open Cert.KernelIdeal Cert.KernelIdeal.Gen
open Idealize.ShloMosaic Idealize.ShloMosaic.TcCoe
open Idealize.ShloMosaic.Pipeline (Dat Cfg Window)
open Cert.KernelIdeal.Facts₀
open Cert.Proof.Forward Cert.Proof.Reals

variable (m : (ℓ : Loc nD τ sig) → Buf (Elt Ideal) ℓ) (c : Dev nD)

/-- The produced windows' block index at point `t`. -/
theorem idx0 : ∀ t : Fin cfg0.N, win0_0.index t = ![min t.val 63, 0] := by decide +kernel
/-- The targets' block index at point `t`. -/
theorem idx1 : ∀ t : Fin cfg0.N, win0_1.index t = ![min t.val 63, 0, 0] := by decide +kernel
/-- The produced steps' mask's block index at point `t`. -/
theorem idx2 : ∀ t : Fin cfg0.N, win0_2.index t = ![min t.val 63, 0, 0] := by decide +kernel
/-- The consumed steps' mask's block index at point `t`: one point behind. -/
theorem idx3 : ∀ t : Fin cfg0.N, win0_3.index t = ![t.val - 1, 0, 0] := by decide +kernel
/-- The weights' block is the whole array. -/
theorem idx4 : ∀ t : Fin cfg0.N, win0_4.index t = ![0, 0] := by decide +kernel
/-- The bias's block is the whole array. -/
theorem idx5 : ∀ t : Fin cfg0.N, win0_5.index t = ![0, 0] := by decide +kernel
/-- The spreading matrix's block is the whole array. -/
theorem idx6 : ∀ t : Fin cfg0.N, win0_6.index t = ![0, 0] := by decide +kernel
/-- The summing matrix's block is the whole array. -/
theorem idx7 : ∀ t : Fin cfg0.N, win0_7.index t = ![0, 0] := by decide +kernel

/-! ## The launch's arrays -/

/-- The launch's features: step and row flattened. -/
theorem V_v0 (r : Fin 32768) (k : Fin 768) : @Eq EReal (V m c main_v0 (ix2 r k)) (m ((c : Thread nD τ).loc main_arg0) (ix3 ⟨r.val / 64, by omega⟩ ⟨r.val % 64, Nat.mod_lt _ (by decide)⟩ k)) := by
  unfold V V0
  after_reads_at

/-- The launch's targets: by block, row and step within the block. -/
theorem V_v6 (n : Fin 64) (r : Fin 64) (i : Fin 8) : @Eq (BitVec 32) (V m c main_v6 (ix3 n r i)) (m ((c : Thread nD τ).loc main_arg1) (ix3 ⟨n.val * 8 + i.val, by omega⟩ r 0)) := by
  unfold V V0
  after_reads_at

/-- A bit as a float. -/
theorem uitofp_bit (w : BitVec 1) : @Eq EReal (FloatOps.uitofp (F := Ideal) .f32 w) (if w = 1#1 then 1 else 0) := by
  rcases (by revert w; decide : ∀ w : BitVec 1, w = 0#1 ∨ w = 1#1) w with rfl | rfl
  · show (((0#1 : BitVec 1).toNat : ℝ) : EReal) = _
    simp
  · show (((1#1 : BitVec 1).toNat : ℝ) : EReal) = _
    simp

/-- A word equality converted to a float is one or zero. -/
theorem uitofp_eq {w : ℕ} (a b : BitVec w) : @Eq EReal (FloatOps.uitofp (F := Ideal) .f32 (IntOp.cmpi .eq a b)) (if a = b then 1 else 0) := by
  rw [uitofp_bit]
  by_cases h : a = b
  · subst h; simp [IntOp.cmpi]
  · simp [IntOp.cmpi, h, beq_eq_false_iff_ne.mpr h]

/-- The launch's mask: by block, row and step within the block, one where kept. -/
theorem V_v9 (n : Fin 64) (r : Fin 64) (i : Fin 8) :
    @Eq EReal (V m c main_v9 (ix3 n r i)) (if (m ((c : Thread nD τ).loc main_arg2) (ix2 ⟨n.val * 8 + i.val, by omega⟩ r) : BitVec 1) = 1#1 then 1 else 0) := by
  unfold V V0
  after_reads_at
  exact uitofp_bit _

/-- The launch's weights, transposed. -/
theorem V_v2 (k : Fin 768) (j : Fin 1024) : @Eq EReal (V m c main_v2 (ix2 k j)) (m ((c : Thread nD τ).loc main_arg3) (ix2 j k)) := by
  unfold V V0
  after_reads_at

/-- The launch's bias, as one row. -/
theorem V_v3 (j : Fin 1024) : @Eq EReal (V m c main_v3 (ix2 0 j)) (m ((c : Thread nD τ).loc main_arg4) (ix1 j)) := by
  unfold V V0
  after_reads_at

/-- The printed floor division of a tag pair's number by 32. -/
theorem floorDiv_word : ∀ j : Fin 1024, Scalar.select
    (IntOp.andi
      (IntOp.cmpi .ne (if BitVec.ofNat 32 j.val = 0 then 0 else if (BitVec.ofNat 32 j.val).msb = true then -1 else 1)
        (if (32#32 : BitVec 32) = 0 then 0 else if BitVec.msb 32#32 = true then -1 else (1 : BitVec 32)))
      (IntOp.cmpi .ne (IntOp.remsi ArithUnit.host (BitVec.ofNat 32 j.val) 32#32) 0#32))
    (IntOp.subi (IntOp.divsi ArithUnit.host (BitVec.ofNat 32 j.val) 32#32) 1#32)
    (IntOp.divsi ArithUnit.host (BitVec.ofNat 32 j.val) 32#32) = BitVec.ofNat 32 (j.val / 32) := by decide +kernel

/-- The printed remainder of a tag pair's number by 32. -/
theorem rem_word : ∀ j : Fin 1024,
    let d : BitVec 32 := Scalar.select (IntOp.cmpi .eq 32#32 0#32) (1#32) 32#32
    let r := IntOp.remsi ArithUnit.host (BitVec.ofNat 32 j.val) d
    Scalar.select (IntOp.andi (IntOp.cmpi .ne (IntOp.cmpi .slt r 0#32) (IntOp.cmpi .slt d 0#32)) (IntOp.cmpi .ne r 0#32)) (IntOp.addi r d) r
      = BitVec.ofNat 32 (j.val % 32) := by decide +kernel

/-- Small numbers' words are equal when the numbers are. -/
theorem ofNat_eq_iff {a b : ℕ} (ha : a < 32) (hb : b < 32) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The spreading matrix: one where the column's tag come from is the row's. -/
theorem V_v18 (f : Fin 32) (j : Fin 1024) : @Eq EReal (V m c main_v18 (ix2 f j)) (if j.val / 32 = f.val then 1 else 0) := by
  unfold V V0
  after_reads_at
  refine (congrArg (fun w => (FloatOps.uitofp (F := Ideal) .f32 (IntOp.cmpi .eq w (BitVec.ofNat 32 f.val)) : EReal)) (floorDiv_word j)).trans ?_
  rw [uitofp_eq]
  exact if_congr (ofNat_eq_iff (by omega) f.isLt) rfl rfl

/-- The summing matrix: one where the row's tag gone to is the column's. -/
theorem V_v26 (j : Fin 1024) (t : Fin 32) : @Eq EReal (V m c main_v26 (ix2 j t)) (if j.val % 32 = t.val then 1 else 0) := by
  unfold V V0
  after_reads_at
  refine (congrArg (fun w => (FloatOps.uitofp (F := Ideal) .f32 (IntOp.cmpi .eq w (BitVec.ofNat 32 t.val)) : EReal)) (rem_word j)).trans ?_
  rw [uitofp_eq]
  exact if_congr (ofNat_eq_iff (by omega) t.isLt) rfl rfl

/-! ## The blocks -/

/-- The features' block at a point. -/
theorem xB_at (t : Fin cfg0.N) (ht : t.val < 64) (r : Fin 512) (k : Fin 768) :
    xB m c t (ix2 r k) = m ((c : Thread nD τ).loc main_arg0) (ix3 ⟨(t.val * 512 + r.val) / 64, by omega⟩ ⟨(t.val * 512 + r.val) % 64, Nat.mod_lt _ (by decide)⟩ k) := by
  refine Eq.trans ?_ (V_v0 m c ⟨t.val * 512 + r.val, by omega⟩ k)
  unfold xB
  have h0 := idx0 t
  have h1 : min t.val 63 = t.val := by omega
  rw [h1] at h0
  blk_ext [iblk, h0]

/-- The targets' block at a point. -/
theorem tB_at (t : Fin cfg0.N) (ht : t.val < 64) (r : Fin 64) (i : Fin 8) :
    tB m c t (ix3 0 r i) = m ((c : Thread nD τ).loc main_arg1) (ix3 ⟨t.val * 8 + i.val, by omega⟩ r 0) := by
  refine Eq.trans ?_ (V_v6 m c ⟨t.val, ht⟩ r i)
  unfold tB
  have h0 := idx1 t
  have h1 : min t.val 63 = t.val := by omega
  rw [h1] at h0
  blk_ext [iblk, h0]

/-- The produced steps' mask block at a point. -/
theorem mB_at (t : Fin cfg0.N) (ht : t.val < 64) (r : Fin 64) (i : Fin 8) :
    @Eq EReal (mB m c t (ix3 0 r i)) (if (m ((c : Thread nD τ).loc main_arg2) (ix2 ⟨t.val * 8 + i.val, by omega⟩ r) : BitVec 1) = 1#1 then 1 else 0) := by
  refine Eq.trans ?_ (V_v9 m c ⟨t.val, ht⟩ r i)
  unfold mB
  have h0 := idx2 t
  have h1 : min t.val 63 = t.val := by omega
  rw [h1] at h0
  blk_ext [iblk, h0]

/-- The consumed steps' mask block at a point. -/
theorem cB_at (t : Fin cfg0.N) (r : Fin 64) (i : Fin 8) :
    @Eq EReal (cB m c t (ix3 0 r i)) (if (m ((c : Thread nD τ).loc main_arg2) (ix2 ⟨(t.val - 1) * 8 + i.val, by have : t.val < 65 := t.isLt; omega⟩ r) : BitVec 1) = 1#1 then 1 else 0) := by
  have ht : t.val < 65 := t.isLt
  refine Eq.trans ?_ (V_v9 m c ⟨t.val - 1, by omega⟩ r i)
  unfold cB
  blk_ext [iblk, idx3 t]

/-- The weights' block at a point. -/
theorem wB_at (t : Fin cfg0.N) (k : Fin 768) (j : Fin 1024) :
    @Eq EReal (wB m c t (ix2 k j)) (m ((c : Thread nD τ).loc main_arg3) (ix2 j k)) := by
  refine Eq.trans ?_ (V_v2 m c k j)
  unfold wB
  blk_ext [iblk, idx4 t]

/-- The bias's block at a point. -/
theorem bB_at (t : Fin cfg0.N) (j : Fin 1024) :
    @Eq EReal (bB m c t (ix2 0 j)) (m ((c : Thread nD τ).loc main_arg4) (ix1 j)) := by
  refine Eq.trans ?_ (V_v3 m c j)
  unfold bB
  blk_ext [iblk, idx5 t]

/-- The spreading matrix's block at a point. -/
theorem eB_at (t : Fin cfg0.N) (f : Fin 32) (j : Fin 1024) : @Eq EReal (eB m c t (ix2 f j)) (if j.val / 32 = f.val then 1 else 0) := by
  refine Eq.trans ?_ (V_v18 m c f j)
  unfold eB
  blk_ext [iblk, idx6 t]

/-- The summing matrix's block at a point. -/
theorem sB_at (t : Fin cfg0.N) (j : Fin 1024) (u : Fin 32) : @Eq EReal (sB m c t (ix2 j u)) (if j.val % 32 = u.val then 1 else 0) := by
  refine Eq.trans ?_ (V_v26 m c j u)
  unfold sB
  blk_ext [iblk, idx7 t]

end Cert.Proof.Crf

end
-- ==== Proof.Grid.lean ====
/-
  What the grid computes over real data: the target's energy and the rows' scaled forms, point by point.
-/
module

public import proofs.«01_k».proof.Proof.Blocks

@[expose] public section

set_option maxRecDepth 16384

noncomputable section

namespace Cert.Proof.Crf

open Cert.KernelIdeal Cert.KernelIdeal.Gen
open Idealize.ShloMosaic Idealize.ShloMosaic.TcCoe
open Cert.Proof.Forward Cert.Proof.Reals Cert.Proof.Data

variable (m : (ℓ : Loc nD τ sig) → Buf (Elt Ideal) ℓ) (c : Dev nD) {D : Args}
  (hD : D.Is (m ((c : Thread nD τ).loc main_arg0)) (m ((c : Thread nD τ).loc main_arg1)) (m ((c : Thread nD τ).loc main_arg2))
    (m ((c : Thread nD τ).loc main_arg3)) (m ((c : Thread nD τ).loc main_arg4)))
include hD

/-- The scores produced at a point. -/
theorem scAt_real (n : ℕ) (hn : n < 64) : ScReal (scAt m c n) (fun i => D.sc (8 * n + i.val)) := by
  intro i r j
  have hp : (pt n).val = n := Nat.mod_eq_of_lt (by omega)
  rw [scAt, scoresV_at]
  have hx : ∀ k : Fin 768, xB m c (pt n) (ix2 ⟨64 * i.val + r.val, by omega⟩ k) = ((D.X ⟨8 * n + i.val, by omega⟩ r k : ℝ) : EReal) := fun k => by
    rw [← hD.x, xB_at m c (pt n) (by omega)]
    refine congrArg (m ((c : Thread nD τ).loc main_arg0)) ?_
    have e1 : ((pt n).val * 512 + (64 * i.val + r.val)) / 64 = 8 * n + i.val := by rw [hp]; omega
    have e2 : ((pt n).val * 512 + (64 * i.val + r.val)) % 64 = r.val := by rw [hp]; omega
    exact funext fun a => Fin.ext (by fin_cases a; exacts [e1, e2, rfl])
  have hw : ∀ k : Fin 768, wB m c (pt n) (ix2 k j) = ((D.W j k : ℝ) : EReal) := fun k => (wB_at m c (pt n) k j).trans (hD.w j k)
  have hb : bB m c (pt n) (ix2 0 j) = ((D.B j : ℝ) : EReal) := (bB_at m c (pt n) j).trans (hD.b j)
  rw [hb]
  simp only [hx, hw, ← EReal.coe_mul]
  rw [sum_coe, ← EReal.coe_add]
  rw [Args.sc, dif_pos (by omega)]
  rfl

/-- A step's scores at the targets. -/
theorem goldV_real (n : ℕ) (hn : n < 64) (i : Fin 8) :
    goldV (tileV (scAt m c n) i) (shapeCast S64x8 (tB m c (pt n)) shapeCasts_S1x64x8_S64x8) (shapeCast S64x8 (mB m c (pt n)) shapeCasts_S1x64x8_S64x8) i
      = ((D.goldN (8 * n + i.val) : ℝ) : EReal) := by
  have hp : (pt n).val = n := Nat.mod_eq_of_lt (by omega)
  have hlt : 8 * n + i.val < 512 := by omega
  rw [goldV_at, Args.goldN, dif_pos hlt, ← sum_coe]
  refine Finset.sum_congr rfl fun r _ => ?_
  have ht : shapeCast S64x8 (tB m c (pt n)) shapeCasts_S1x64x8_S64x8 (ix2 r i) = BitVec.ofNat 32 (D.tg ⟨8 * n + i.val, hlt⟩ r).val := by
    have e : shapeCast S64x8 (tB m c (pt n)) shapeCasts_S1x64x8_S64x8 (ix2 r i) = tB m c (pt n) (ix3 0 r i) := by pointwise
    rw [e, ← hD.tg, tB_at m c (pt n) (by omega)]
    refine congrArg (m ((c : Thread nD τ).loc main_arg1)) ?_
    have e1 : (pt n).val * 8 + i.val = 8 * n + i.val := by rw [hp]; omega
    exact funext fun a => Fin.ext (by fin_cases a; exacts [e1, rfl, rfl])
  have hm : shapeCast S64x8 (mB m c (pt n)) shapeCasts_S1x64x8_S64x8 (ix2 r i) = if D.keep ⟨8 * n + i.val, hlt⟩ r then 1 else 0 := by
    have e : shapeCast S64x8 (mB m c (pt n)) shapeCasts_S1x64x8_S64x8 (ix2 r i) = mB m c (pt n) (ix3 0 r i) := by pointwise
    rw [e]
    refine (mB_at m c (pt n) (by omega) r i).trans (if_congr ?_ rfl rfl)
    rw [← hD.keep]
    have e1 : (pt n).val * 8 + i.val = 8 * n + i.val := by rw [hp]; omega
    simp only [e1]
  rw [hm]
  simp only [ht, tileV_at, scAt_real m c hD n hn i r]
  have hinj : ∀ j : Fin 1024, BitVec.ofNat 32 j.val = BitVec.ofNat 32 (D.tg ⟨8 * n + i.val, hlt⟩ r).val ↔ j = D.tg ⟨8 * n + i.val, hlt⟩ r := by
    intro j
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  simp only [hinj]
  rw [Args.goldAt]
  cases hk : D.keep ⟨8 * n + i.val, hlt⟩ r
  · simp
  · simp [Args.sc, hlt]

/-- The target's energy before a point. -/
theorem tgAt_real : ∀ n ≤ 64, tgAt m c n = ((∑ s ∈ Finset.range (8 * n), D.goldN s : ℝ) : EReal)
  | 0, _ => by simp [tgAt]
  | n + 1, hn => by
    have ih := tgAt_real n (by omega)
    have h1 : Scalar.cmpi .slt (BitVec.ofNat 32 n) 64#32 = 1#1 := by
      have := (by decide +kernel : ∀ k : Fin 64, Scalar.cmpi .slt (BitVec.ofNat 32 k.val) 64#32 = 1#1) ⟨n, by omega⟩
      exact this
    have h0 : Scalar.select (Scalar.cmpi .eq (BitVec.ofNat 32 n) 0#32) (Scalar.ofBits .f32 0x00000000#32 : Ideal .f32) (tgAt m c n) = tgAt m c n := by
      cases n with
      | zero => simp [tgAt, Scalar.select]
      | succ n =>
        have := (by decide +kernel : ∀ k : Fin 64, k.val ≠ 0 → Scalar.cmpi .eq (BitVec.ofNat 32 k.val) 0#32 = 0#1) ⟨n + 1, by omega⟩ (by simp)
        rw [show Scalar.cmpi .eq (BitVec.ofNat 32 (n + 1)) 0#32 = 0#1 from this]
        simp [Scalar.select]
    rw [tgAt, phaseTg, h1, h0, ih]
    simp only [goldAll, goldV_real m c hD n (by omega)]
    have e8 : 8 * (n + 1) = 8 * n + 8 := by ring
    rw [e8, Finset.sum_range_add]
    simp only [Finset.sum_range_succ, Finset.sum_range_zero, zero_add]
    simp only [EReal.coe_add]
    show _ + ((((((((Ideal.ofBits .f32 0x00000000#32 + _) + _) + _) + _) + _) + _) + _) + _ : EReal) = _
    rw [Ideal.ofBits_zero_f32, zero_add]
    rfl

/-- The last point adds nothing. -/
theorem tgAt_last : tgAt m c 65 = ((D.gold : ℝ) : EReal) := by
  have h := tgAt_real m c hD 64 le_rfl
  have h1 : Scalar.cmpi .slt (BitVec.ofNat 32 64) 64#32 = 0#1 := by decide
  have h0 : Scalar.cmpi .eq (BitVec.ofNat 32 64) 0#32 = 0#1 := by decide
  rw [show tgAt m c 65 = phaseTg (BitVec.ofNat 32 64) (scAt m c 64) (tB m c (pt 64)) (mB m c (pt 64)) (tgAt m c 64) from rfl, phaseTg, h1, h0, h, D.gold_eq.symm]
  show ((_ : ℝ) : EReal) + Ideal.ofBits .f32 0x00000000#32 = _
  rw [Ideal.ofBits_zero_f32, add_zero]

/-- The constants of the point that consumes block `n`. -/
theorem consts_real (n : ℕ) (hn : n < 64) :
    Consts (shapeCast S64x8 (cB m c (pt (n + 1))) shapeCasts_S1x64x8_S64x8) (shapeCast S32x1024 (eB m c (pt (n + 1))) shapeCasts_S32x1024_S32x1024)
      (shapeCast S1024x32 (sB m c (pt (n + 1))) shapeCasts_S1024x32_S1024x32) (fun i b => D.mkN b (8 * n + i.val)) := by
  have hp : (pt (n + 1)).val = n + 1 := Nat.mod_eq_of_lt (by omega)
  refine ⟨fun r i => ?_, fun f j => ?_, fun j t => ?_⟩
  · have e : shapeCast S64x8 (cB m c (pt (n + 1))) shapeCasts_S1x64x8_S64x8 (ix2 r i) = cB m c (pt (n + 1)) (ix3 0 r i) := by pointwise
    rw [e]
    refine (cB_at m c (pt (n + 1)) r i).trans (if_congr ?_ rfl rfl)
    rw [Args.mkN, dif_pos (by omega), ← hD.keep]
    have e1 : ((pt (n + 1)).val - 1) * 8 + i.val = 8 * n + i.val := by rw [hp]; omega
    simp only [e1]
  · have e : shapeCast S32x1024 (eB m c (pt (n + 1))) shapeCasts_S32x1024_S32x1024 (ix2 f j) = eB m c (pt (n + 1)) (ix2 f j) := by pointwise
    rw [e]; exact eB_at m c _ f j
  · have e : shapeCast S1024x32 (sB m c (pt (n + 1))) shapeCasts_S1024x32_S1024x32 (ix2 j t) = sB m c (pt (n + 1)) (ix2 j t) := by pointwise
    rw [e]; exact sB_at m c _ j t

/-- A buffer of 64 rows holds reals: each row's sums and its offset. -/
def HoldB (po : Vec Ideal S64x32 .f32 × Vec Ideal S64x32 .f32) (g : Fin 64 → St) : Prop :=
  ∀ (b : Fin 64) (t : Fin 32), po.1 (ix2 b t) = (((g b).1 t : ℝ) : EReal) ∧ po.2 (ix2 b t) = (((g b).2 : ℝ) : EReal)

omit hD in
/-- Whole rows holding a scaled form, cut into chains. -/
theorem chainsOf_hold {po : Vec Ideal S64x32 .f32 × Vec Ideal S64x32 .f32} {g : Fin 64 → St} (h : HoldB po g) : Hold (chainsOf po.1, chainsOf po.2) g := by
  intro k r t
  have e : ∀ x : Vec Ideal S64x32 .f32, chainsOf x k (ix2 r t) = x (ix2 ⟨16 * k.val + r.val, by omega⟩ t) := fun x =>
    congrArg x (funext fun a => Fin.ext (by
      fin_cases a
      · show 16 * k.val + 1 * r.val = 16 * k.val + r.val; omega
      · show 0 + 1 * t.val = t.val; omega))
  exact ⟨(e _).trans (h _ t).1, (e _).trans (h _ t).2⟩

omit hD in
/-- Chains holding a scaled form, joined and scaled. -/
theorem join_hold (PO : Chains Ideal × Chains Ideal) {g : Fin 64 → St} (h : Hold PO g) (hpos : ∀ b, 0 < pm c30 (g b)) :
    HoldB (joinC fun c => normP (PO.1 c), joinC fun c => normO (PO.1 c) (PO.2 c)) (fun b => normR c30 (g b)) := by
  intro b t
  have hr : rowIn (ix2 b t) = ix2 ⟨b.val % 16, Nat.mod_lt _ (by decide)⟩ t := funext fun a => Fin.ext (by fin_cases a <;> rfl)
  have hb : (⟨16 * (rowChain (ix2 b t)).val + b.val % 16, by have := (rowChain (ix2 b t)).isLt; omega⟩ : Fin 64) = b :=
    Fin.ext (by show 16 * (b.val / 16) + b.val % 16 = b.val; omega)
  have hn := norm_real (P := PO.1 (rowChain (ix2 b t))) (O := PO.2 (rowChain (ix2 b t))) ⟨b.val % 16, Nat.mod_lt _ (by decide)⟩ (w := g b)
    (fun t' => by have := (h (rowChain (ix2 b t)) ⟨b.val % 16, Nat.mod_lt _ (by decide)⟩ t').1; rw [hb] at this; exact this)
    (fun t' => by have := (h (rowChain (ix2 b t)) ⟨b.val % 16, Nat.mod_lt _ (by decide)⟩ t').2; rw [hb] at this; exact this) (hpos b) t
  constructor
  · show normP (PO.1 (rowChain (ix2 b t))) (rowIn (ix2 b t)) = _
    rw [hr]; exact hn.1
  · show normO (PO.1 (rowChain (ix2 b t))) (PO.2 (rowChain (ix2 b t))) (rowIn (ix2 b t)) = _
    rw [hr]; exact hn.2

omit hD in
/-- A step inside a block. -/
theorem row_step (n : ℕ) (i : ℕ) (hi : i < 7) :
    rowStep (fun b => D.mkN b (8 * n + (i + 1))) (D.sc (8 * n + (i + 1))) (fun b => D.row b (8 * n + i)) = fun b => D.row b (8 * n + (i + 1)) := by
  funext b
  have h8 : ¬ (8 * n + i + 1) % 8 = 0 := by omega
  show _ = st c30 (D.u b) (D.mkN b) (fun n => D.mx b n + lam) (8 * n + i + 1)
  rw [st]
  simp only [if_neg h8, rowStep]
  rfl

omit hD in
/-- The first step of a block but the first. -/
theorem row_first (n : ℕ) :
    rowStep (fun b => D.mkN b (8 * (n + 1) + 0)) (D.sc (8 * (n + 1) + 0)) (fun b => normR c30 (D.row b (8 * n + 7))) = fun b => D.row b (8 * (n + 1) + 0) := by
  funext b
  have h8 : (8 * n + 7 + 1) % 8 = 0 := by omega
  show _ = st c30 (D.u b) (D.mkN b) (fun n => D.mx b n + lam) (8 * n + 7 + 1)
  rw [st]
  simp only [if_pos h8, rowStep]
  rfl

/-- A phase over real data: seven steps after the first one, then the scaling. -/
theorem phase_real (n : ℕ) (hn : n < 64) (a : BitVec 32) (po : Vec Ideal S64x32 .f32 × Vec Ideal S64x32 .f32) (hr : D.InRange)
    (h0 : Hold (firstPO a (exBuf (scAt m c n)) (bndBuf (scAt m c n)) (shapeCast S64x8 (cB m c (pt (n + 1))) shapeCasts_S1x64x8_S64x8) (shapeCast S32x1024 (eB m c (pt (n + 1))) shapeCasts_S32x1024_S32x1024)
      (shapeCast S1024x32 (sB m c (pt (n + 1))) shapeCasts_S1024x32_S1024x32) (chainsOf po.1, chainsOf po.2)) (fun b => D.row b (8 * n + 0))) :
    HoldB (phasePO a (exBuf (scAt m c n)) (bndBuf (scAt m c n)) (cB m c (pt (n + 1))) (eB m c (pt (n + 1))) (sB m c (pt (n + 1))) po)
      (fun b => normR c30 (D.row b (8 * n + 7))) := by
  have hs := scAt_real m c hD n hn
  have hc := consts_real m c hD n hn
  have step : ∀ (j : Fin 8) (i : ℕ), j.val = i + 1 → ∀ PO : Chains Ideal × Chains Ideal, Hold PO (fun b => D.row b (8 * n + i)) →
      Hold (consPO (exBuf (scAt m c n)) (bndBuf (scAt m c n)) (shapeCast S64x8 (cB m c (pt (n + 1))) shapeCasts_S1x64x8_S64x8) (shapeCast S32x1024 (eB m c (pt (n + 1))) shapeCasts_S32x1024_S32x1024)
      (shapeCast S1024x32 (sB m c (pt (n + 1))) shapeCasts_S1024x32_S1024x32) j PO) (fun b => D.row b (8 * n + (i + 1))) := by
    intro j i hj PO hPO
    have h := consPO_real hs hc j hPO
    rw [hj] at h
    rw [row_step n i (by omega)] at h
    exact h
  refine join_hold (phaseChains a (exBuf (scAt m c n)) (bndBuf (scAt m c n)) (cB m c (pt (n + 1))) (eB m c (pt (n + 1))) (sB m c (pt (n + 1))) po) ?_
    fun b => pm_pos (D.mkN b) lam_le c30_le (8 * n + 7) (fun k hk => hr b k (by omega))
  unfold phaseChains
  simp only [List.foldl_cons, List.foldl_nil]
  refine step 7 6 rfl _ (step 6 5 rfl _ (step 5 4 rfl _ (step 4 3 rfl _ (step 3 2 rfl _ (step 2 1 rfl _ (step 1 0 rfl _ ?_))))))
  exact h0

/-- The rows' scaled forms after the point that consumes block `n`. -/
theorem poAt_real (hr : D.InRange) : ∀ n < 64, HoldB (poAt m c (n + 2)) (fun b => normR c30 (D.row b (8 * n + 7))) := by
  intro n
  induction n with
  | zero =>
    intro hn
    exact phase_real m c hD 0 hn (BitVec.ofNat 32 1) (poAt m c 1) hr (firstPO_start (scAt_real m c hD 0 hn) _)
  | succ n ih =>
    intro hn
    refine phase_real m c hD (n + 1) hn (BitVec.ofNat 32 (n + 2)) (poAt m c (n + 2)) hr ?_
    have ha : BitVec.ofNat 32 (n + 2) ≠ 1#32 := by
      intro h
      have := congrArg BitVec.toNat h
      simp at this
      omega
    rw [← row_first n]
    exact firstPO_real (scAt_real m c hD (n + 1) hn) (consts_real m c hD (n + 1) hn) ha (chainsOf_hold (ih (by omega)))

/-- The result's word is the loss. -/
theorem lossAt_real (hr : D.InRange) : lossAt m c = ((D.loss : ℝ) : EReal) := by
  have hp := poAt_real m c hD hr 63 (by decide)
  have hf := fun b : Fin 64 => st_final (D.mkN b) lam_le c30_le c38_le (fun k hk => hr b k hk)
  rw [lossAt, lossV_at, tgAt_last m c hD, ofBits_c38, ofBits_64]
  have e : ∀ b : Fin 64, Ideal.log (max ((poAt m c 65).1 (ix2 b 31)) ((c38 : ℝ) : EReal)) + (poAt m c 65).2 (ix2 b 31) = ((fwd (D.u b) (D.mkN b) 511 31 : ℝ) : EReal) := by
    intro b
    rw [(hp b 31).1, (hp b 31).2, max_coe]
    show Ideal.log ((max ((normR c30 (st c30 (D.u b) (D.mkN b) (fun n => D.mx b n + lam) 511)).1 31) c38 : ℝ) : EReal) + _ = _
    rw [log_pos (lt_max_of_lt_left (hf b).1), ← EReal.coe_add]
    exact congrArg _ (hf b).2
  simp only [e]
  rw [sum_coe, ← EReal.coe_sub, div_real _ (by norm_num)]
  rfl

end Cert.Proof.Crf

end
-- ==== Proof.KernelValue.lean ====
/-
  What the kernel returns: what its last grid point writes.
-/
module

public import proofs.«01_k».proof.Proof.Launch
public import proofs.«01_k».proof.Proof.Grid
public import Idealize.ShloMosaic.Lib.StableHlo.ReadAt

@[expose] public section

set_option maxRecDepth 8192

noncomputable section

namespace Cert.Proof.Crf

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (c : Dev nD)

/-- The last grid point. -/
def tLast : Fin cfg0.N := ⟨64, by decide +kernel⟩

/-- The result's array after the region: what the last grid point writes. -/
theorem out_array : (dats m 0 c).arrAt 8 cfg0.N = fun _ => lossAt m c := by
  refine (dats m 0 c).arrAt_eq_of_after_last 8 tLast (by decide +kernel) _ fun j => ?_
  blk_simp
  rfl

/-- The result at the end: the array's one element. -/
theorem tail : Pipeline.afterTail₀ cfgs (dats m) 0 (V0 m) [hostOps1] c main_v28 = fun _ => lossAt m c := by
  have hA : Pipeline.withArrays (cfgs 0).spec c (V0 m c) (fun w => (dats m 0 c).arrAt w (cfgs 0).N) (Proc.devRef .tc main_v27) = fun _ => lossAt m c :=
    (Pipeline.withArrays_arr_shared (cfgs 0).spec c (V0 m c) (fun w => (dats m 0 c).arrAt w (cfgs 0).N)
      ((dats m 0 c).arrAt_sharedIn sharedIn0 (V0 m c) (fun w => A_eq m c w) _) 8).trans (out_array m c)
  unfold Pipeline.afterTail₀
  funext i
  generalize Pipeline.withArrays (cfgs 0).spec c (V0 m c) (fun w => (dats m 0 c).arrAt w (cfgs 0).N) = Y at hA
  rw [List.flatten_cons, List.flatten_nil, List.append_nil]
  after_reads_at
  rw [hA]

/-- The kernel's run: its result is what the last grid point writes, and its arguments end as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v28) = (fun _ => lossAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h.1 c).2 main_v28 (Pipeline.mem_restRefs_of main_v28 (by decide) (by decide))).trans (tail m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩) (run_main m ρ)

end Cert.Proof.Crf

end
-- ==== Proof.RefFrame.lean ====
/-
  The reference's run leaves its five arguments as they were.
-/
module

public import proofs.«01_k».proof.Proof.Gen.ReferenceIdeal.Run

@[expose] public section

noncomputable section

open Idealize.ShloMosaic Idealize.ShloMosaic.TcCoe Idealize.SL.Sem

namespace Cert.Proof.CrfRef

open Cert.ReferenceIdeal Cert.ReferenceIdeal.Value Idealize.ShloMosaic.StableHlo

variable {F : FTy → Type} [FloatOps F]
variable (m : (ℓ : Loc nD τ sig) → Buf (Elt F) ℓ) (ρ : Dev nD → PrngReg)

/-- A reference that no stretch before the loop writes holds its launch contents at the loop's entry. -/
theorem entry_keep (c : Dev nD) (r : Ref sig .tc)
    (hr : r ∉ hostOps0_W ++ hostOps0_1_W ++ hostOps0_2_W ++ hostOps0_3_W ++ hostOps0_4_W) :
    entryContents preI m c (Proc.devRef .tc r) = launchContents m c (Proc.devRef .tc r) := by
  simp only [List.mem_append, not_or] at hr
  obtain ⟨⟨⟨⟨h0, h1⟩, h2⟩, h3⟩, h4⟩ := hr
  simp only [entryContents, afterL_cons, afterL_nil]
  rw [after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A reference that neither the loop's condition nor its body writes is the same at every trip. -/
theorem atK_keep (c : Dev nD) (r : Ref sig .tc)
    (hr : r ∉ condOps_W ++ while0Ops0_W ++ while0Ops0_1_W ++ while0Ops0_2_W ++ while0Ops0_3_W ++ while0Ops0_4_W) :
    ∀ k, atK m k c (Proc.devRef .tc r) = entryContents preI m c (Proc.devRef .tc r)
  | 0 => rfl
  | k + 1 => by
    have ih := atK_keep c r hr k
    simp only [List.mem_append, not_or] at hr
    obtain ⟨⟨⟨⟨⟨hc, h0⟩, h1⟩, h2⟩, h3⟩, h4⟩ := hr
    rw [show atK m (k + 1) c = afterL bodyI (after condOps (atK m k c)) from rfl]
    simp only [afterL_cons, afterL_nil]
    rw [after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc]
    exact ih

/-- The references that the stretch after the loop writes. -/
abbrev hostOps0_5_W : List (Ref sig .tc) := [main_v18, main_v19, main_cst_1, main_v20, main_v21, main_cst_2, main_v22]

/-- The stretch after the loop writes those references only. -/
theorem hostOps0_5_writes : (Gen.hostOps0_5 : List (HloOp τ sig (Elt F))).Forall fun op =>
    op.writes ⊆ (hostOps0_5_W.map (Proc.devRef (τ := τ) .tc)).toFinset :=
  StableHlo.forall_writes_sub_of_map rfl

/-- A reference that no operation of the program writes ends with its launch contents. -/
theorem final_keep (c : Dev nD) (r : Ref sig .tc)
    (h0 : r ∉ hostOps0_W ++ hostOps0_1_W ++ hostOps0_2_W ++ hostOps0_3_W ++ hostOps0_4_W)
    (h1 : r ∉ condOps_W ++ while0Ops0_W ++ while0Ops0_1_W ++ while0Ops0_2_W ++ while0Ops0_3_W ++ while0Ops0_4_W)
    (h2 : r ∉ hostOps0_5_W) :
    finalContents condOps preI bodyI postI 511 m c (Proc.devRef .tc r) = launchContents m c (Proc.devRef .tc r) := by
  have hc : r ∉ condOps_W := fun h => h1 (by simp only [List.mem_append]; tauto)
  simp only [finalContents, afterL_cons, afterL_nil]
  rw [after_of_writes_sub _ _ hostOps0_5_writes h2, after_of_writes_sub _ _ condOps_writes hc]
  exact (atK_keep m c r h1 511).trans (entry_keep m c r h0)

/-- The reference runs, with every buffer that is not scoped at the fold of its operations, and leaves its arguments unchanged. -/
theorem run_args : θ_run (defs (F := F)) (onTc (τ := τ) (main (F := F))) ⟨m, fun _ => 0, ρ⟩ (fun r => ∀ c : Dev nD,
      (r.2.mem ((c.tc : Thread nD τ).loc main_v22) = finalContents condOps preI bodyI postI 511 m c (Proc.devRef .tc main_v22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨h c main_v22 rfl,
    (h c main_arg0 rfl).trans (final_keep m c main_arg0 (by decide +kernel) (by decide +kernel) (by decide +kernel)),
    (h c main_arg1 rfl).trans (final_keep m c main_arg1 (by decide +kernel) (by decide +kernel) (by decide +kernel)),
    (h c main_arg2 rfl).trans (final_keep m c main_arg2 (by decide +kernel) (by decide +kernel) (by decide +kernel)),
    (h c main_arg3 rfl).trans (final_keep m c main_arg3 (by decide +kernel) (by decide +kernel) (by decide +kernel)),
    (h c main_arg4 rfl).trans (final_keep m c main_arg4 (by decide +kernel) (by decide +kernel) (by decide +kernel))⟩)
    (run_fold m ρ)

end Cert.Proof.CrfRef

end
-- ==== Proof.RefPre.lean ====
/-
  What the reference holds before its loop, over real data.
-/
module

public import proofs.«01_k».proof.Proof.RefFrame
public import proofs.«01_k».proof.Proof.Data
public import Idealize.ShloMosaic.Lib.StableHlo.ReadAt
public import Idealize.ShloMosaic.Lib.ValueIdx
public import Idealize.ShloMosaic.Lib.ReduceAll

@[expose] public section

set_option maxRecDepth 8192

noncomputable section

open Idealize.ShloMosaic Idealize.ShloMosaic.TcCoe Idealize.SL.Sem

namespace Cert.Proof.CrfRef

open Cert.ReferenceIdeal Cert.ReferenceIdeal.Gen Cert.ReferenceIdeal.Value Idealize.ShloMosaic.StableHlo
open Cert.Proof.Forward Cert.Proof.Reals Cert.Proof.Data

variable (m : (ℓ : Loc nD τ sig) → Buf (Elt Ideal) ℓ) (c : Dev nD)

/-- The scores of the steps after the first, at an index, before the loop. -/
theorem entry_v17_0 (s : Fin 511) (b : Fin 64) (f t : Fin 32) :
    @Eq EReal (entryContents preI m c (Proc.devRef .tc main_v17_0) (ix4 s b f t))
      ((∑ k : Fin 768, @HMul.hMul EReal EReal EReal _ (m ((c.tc : Thread nD τ).loc main_arg0) (ix3 ⟨1 + s.val, by omega⟩ b k)) (m ((c.tc : Thread nD τ).loc main_arg3) (ix2 ⟨f.val * 32 + t.val, by omega⟩ k)))
        + (m ((c.tc : Thread nD τ).loc main_arg4) (ix1 ⟨f.val * 32 + t.val, by omega⟩))) := by
  simp only [entryContents, afterL_cons, afterL_nil]
  after_reads_at
  rw [id]
  pointwise

/-- The mask of the steps after the first, before the loop. -/
theorem entry_v17_1 (s : Fin 511) (b : Fin 64) :
    entryContents preI m c (Proc.devRef .tc main_v17_1) (ix2 s b) = m ((c.tc : Thread nD τ).loc main_arg2) (ix2 ⟨1 + s.val, by omega⟩ b) := by
  simp only [entryContents, afterL_cons, afterL_nil]
  after_reads_at
  rw [id]
  pointwise

/-- The partition before the loop: the first step's scores from the start tag. -/
theorem entry_v17_3 (b : Fin 64) (t : Fin 32) :
    @Eq EReal (entryContents preI m c (Proc.devRef .tc main_v17_3) (ix2 b t))
      ((∑ k : Fin 768, @HMul.hMul EReal EReal EReal _ (m ((c.tc : Thread nD τ).loc main_arg0) (ix3 0 b k)) (m ((c.tc : Thread nD τ).loc main_arg3) (ix2 ⟨960 + t.val, by omega⟩ k)))
        + (m ((c.tc : Thread nD τ).loc main_arg4) (ix1 ⟨960 + t.val, by omega⟩))) := by
  simp only [entryContents, afterL_cons, afterL_nil]
  after_reads_at
  rw [id]
  rfl

/-- The target's column, a negative one moved up by the number of columns. -/
def wrapV (tg : IVec S512x64x1 32) : IVec S512x64x1x1 32 :=
  fun i => shapeCast S512x64x1x1 (select (cmpi .slt tg (broadcastInDim S512x64x1 ![] bcast_S_S512x64x1 (constantI S_ 32 0#32)))
    (addi tg (broadcastInDim S512x64x1 ![] bcast_S_S512x64x1 (constantI S_ 32 1024#32))) tg) shapeCasts_S512x64x1_S512x64x1x1 i

/-- A target within the columns is not moved. -/
theorem wrapV_at (tg : IVec S512x64x1 32) (s : Fin 512) (b : Fin 64) (T : Fin 1024) (h : tg (ix3 s b 0) = BitVec.ofNat 32 T.val) :
    wrapV tg (ix4 s b 0 0) = BitVec.ofNat 32 T.val := by
  have e : wrapV tg (ix4 s b 0 0) = Scalar.select (IntOp.cmpi .slt (tg (ix3 s b 0)) 0#32) (IntOp.addi (tg (ix3 s b 0)) 1024#32) (tg (ix3 s b 0)) := by
    unfold wrapV
    pointwise
  rw [e, h]
  have := (by decide +kernel : ∀ T : Fin 1024, IntOp.cmpi .slt (BitVec.ofNat 32 T.val) 0#32 = 0#1) T
  rw [this]
  rfl

/-- The target's scores, the reference's way: out of range the fill, which no target here is. -/
def takeV (x : FVec Ideal S512x64x1024 .f32) (idx : IVec S512x64x1x1 32) : FVec Ideal S512x64x1 .f32 :=
  select (Host.reduce IntOp.andi (andi (cmpi .sge idx (broadcastInDim S512x64x1x1 ![] bcast_S_S512x64x1x1 (constantI S_ 32 0#32)))
      (cmpi .sle idx (broadcastInDim S512x64x1x1 ![0, 1, 2, 3] bcast_S1x1x1x1_S512x64x1x1_0_1_2_3 (broadcastInDim S1x1x1x1 ![3] bcast_S1_S1x1x1x1_3 (constantI S1 32 1023#32)))))
      (constantI S_ 1 1#1) reducesTo_S512x64x1x1_S512x64x1_d3 h_S_)
    (Host.gather gather_S512x64x1024_S512x64x1x1_S512x64x1_n_2_01_01_2_3_111 x idx)
    (broadcastInDim S512x64x1 ![] bcast_S_S512x64x1 (constant S_ .f32 0x7FC00000#32))

/-- The gather at an index: the row's entry at the column named. -/
theorem gather_at (x : FVec Ideal S512x64x1024 .f32) (idx : IVec S512x64x1x1 32) (s : Fin 512) (b : Fin 64) :
    Host.gather gather_S512x64x1024_S512x64x1x1_S512x64x1_n_2_01_01_2_3_111 x idx (ix3 s b 0)
      = x (ix3 s b ⟨min (idx (ix4 s b 0 0)).toInt.toNat 1023, by omega⟩) := by
  set d := gather_S512x64x1024_S512x64x1x1_S512x64x1_n_2_01_01_2_3_111 with hd
  have off (a : Fin 3) : d.offCoord (ix3 s b 0) a = 0 := by
    refine GatherDims.offCoord_eq_zero _ _ _ fun h => ?_
    have h := (GatherDims.mem_sKept _ _).mp h
    match a with
    | ⟨0, _⟩ => exact h.2 (show (0 : Fin 3) ∈ [0, 1] by decide)
    | ⟨1, _⟩ => exact h.2 (show (1 : Fin 3) ∈ [0, 1] by decide)
    | ⟨2, _⟩ => exact h.1 (show (2 : Fin 3) ∈ [2] by decide)
  have row (a : Fin 3) (ha : a ∈ d.operandBatchingDims) : d.start (ix3 s b 0) idx a + d.batchCoord (ix3 s b 0) a + d.offCoord (ix3 s b 0) a
      = d.batchCoord (ix3 s b 0) a := by
    rw [off, GatherDims.start_batching _ _ _ _ ha, Nat.zero_add, Nat.add_zero]
  refine congrArg x (funext fun a => Fin.ext ?_)
  match a with
  | ⟨0, _⟩ =>
    refine (row 0 (show (0 : Fin 3) ∈ [0, 1] by decide)).trans ?_
    unfold GatherDims.batchCoord
    rw [dif_pos (show (0 : Fin 3) ∈ d.operandBatchingDims from (show (0 : Fin 3) ∈ [0, 1] by decide))]
    rfl
  | ⟨1, _⟩ =>
    refine (row 1 (show (1 : Fin 3) ∈ [0, 1] by decide)).trans ?_
    unfold GatherDims.batchCoord
    rw [dif_pos (show (1 : Fin 3) ∈ d.operandBatchingDims from (show (1 : Fin 3) ∈ [0, 1] by decide))]
    rfl
  | ⟨2, _⟩ =>
    show d.start (ix3 s b 0) idx 2 + d.batchCoord (ix3 s b 0) 2 + d.offCoord (ix3 s b 0) 2 = _
    rw [off, GatherDims.batchCoord_eq_zero _ _ _ (fun h => absurd (show (2 : Fin 3) ∈ [0, 1] from h) (by decide))]
    show d.start (ix3 s b 0) idx 2 = _
    unfold GatherDims.start
    have h2 : (2 : Fin 3) ∈ d.startIndexMap := List.mem_singleton.mpr rfl
    rw [dif_pos h2]
    have hsi : d.siIdx (ix3 s b 0) ⟨List.idxOf (2 : Fin 3) d.startIndexMap, List.idxOf_lt_length_iff.2 h2⟩ = ix4 s b 0 0 := by
      funext q; refine Fin.ext ?_
      match q with
      | ⟨0, _⟩ => rfl
      | ⟨1, _⟩ => rfl
      | ⟨2, _⟩ => rfl
      | ⟨3, _⟩ => rfl
    rw [hsi]
    rfl

/-- A choice at an index where the condition holds. -/
theorem select_kept {s : Shape} {α : Type} (p : IVec s 1) (x y : s.Idx → α) (i : s.Idx) (h : p i = 1#1) : select p x y i = x i := by
  show Scalar.select (p i) (x i) (y i) = x i
  rw [h]
  rfl

/-- Targets within the columns are taken at their own columns. -/
theorem takeV_at (x : FVec Ideal S512x64x1024 .f32) (idx : IVec S512x64x1x1 32) (T : Fin 512 → Fin 64 → Fin 1024)
    (h : ∀ s b, idx (ix4 s b 0 0) = BitVec.ofNat 32 (T s b).val) (s : Fin 512) (b : Fin 64) :
    takeV x idx (ix3 s b 0) = x (ix3 s b (T s b)) := by
  have hall : ∀ i, (andi (cmpi .sge idx (broadcastInDim S512x64x1x1 ![] bcast_S_S512x64x1x1 (constantI S_ 32 0#32)))
      (cmpi .sle idx (broadcastInDim S512x64x1x1 ![0, 1, 2, 3] bcast_S1x1x1x1_S512x64x1x1_0_1_2_3 (broadcastInDim S1x1x1x1 ![3] bcast_S1_S1x1x1x1_3 (constantI S1 32 1023#32))))) i = 1#1 := by
    intro i
    have hi : i = ix4 (i 0) (i 1) 0 0 := by
      funext a; refine Fin.ext ?_
      fin_cases a
      · rfl
      · rfl
      · show (i 2).val = 0; have := (i 2).isLt; simp at this; omega
      · show (i 3).val = 0; have := (i 3).isLt; simp at this; omega
    rw [hi]
    show IntOp.andi (IntOp.cmpi .sge (idx (ix4 (i 0) (i 1) 0 0)) 0#32) (IntOp.cmpi .sle (idx (ix4 (i 0) (i 1) 0 0)) 1023#32) = 1#1
    rw [h (i 0) (i 1)]
    exact (by decide +kernel : ∀ T : Fin 1024, IntOp.andi (IntOp.cmpi .sge (BitVec.ofNat 32 T.val) 0#32) (IntOp.cmpi .sle (BitVec.ofNat 32 T.val) 1023#32) = 1#1) _
  unfold takeV
  refine (select_kept _ _ _ _ (Host.reduce_andi_one _ _ _ _ _ rfl hall)).trans ?_
  rw [gather_at]
  have := (by decide +kernel : ∀ T : Fin 1024, min (BitVec.ofNat 32 T.val).toInt.toNat 1023 = T.val) (T s b)
  rw [← h s b] at this
  exact congrArg x (congrArg (ix3 s b) (Fin.ext this))

/-- The scores before they are laid out by tag. -/
def rawV (x : FVec Ideal S512x64x768 .f32) (w : FVec Ideal S1024x768 .f32) (bb : FVec Ideal S1024 .f32) : FVec Ideal S512x64x1024 .f32 :=
  addf (Host.dotGeneral dot_S512x64x768_S768x1024_S512x64x1024_2_0_01_1_n_n none x
      (transpose S768x1024 [1, 0] w transposes_S1024x768_S768x1024_1_0))
    (broadcastInDim S512x64x1024 ![0, 1, 2] bcast_S1x1x1024_S512x64x1024_0_1_2 (broadcastInDim S1x1x1024 ![2] bcast_S1024_S1x1x1024_2 bb))

/-- The scores, laid out by tag and back. -/
def scV (x : FVec Ideal S512x64x768 .f32) (w : FVec Ideal S1024x768 .f32) (bb : FVec Ideal S1024 .f32) : FVec Ideal S512x64x1024 .f32 :=
  fun i => shapeCast S512x64x1024 (fun i => shapeCast S512x64x32x32 (rawV x w bb)
    shapeCasts_S512x64x1024_S512x64x32x32 i) shapeCasts_S512x64x32x32_S512x64x1024 i

/-- A score at an index. -/
theorem rawV_at (x : FVec Ideal S512x64x768 .f32) (w : FVec Ideal S1024x768 .f32) (bb : FVec Ideal S1024 .f32) (s : Fin 512) (b : Fin 64) (j : Fin 1024) :
    rawV x w bb (ix3 s b j) = ((∑ k : Fin 768, x (ix3 s b k) * w (ix2 j k)) + bb (ix1 j) : EReal) := by
  unfold rawV
  pointwise

/-- Laying the scores out by tag and back changes nothing. -/
theorem scV_eq (x : FVec Ideal S512x64x768 .f32) (w : FVec Ideal S1024x768 .f32) (bb : FVec Ideal S1024 .f32) : scV x w bb = rawV x w bb := by
  generalize hz : rawV x w bb = z
  unfold scV
  rw [hz]
  exact shapeCast_shapeCast z shapeCasts_S512x64x1024_S512x64x32x32 shapeCasts_S512x64x32x32_S512x64x1024

/-- The target's energy, of the taken scores. -/
theorem energy_at (mk : IVec S512x64 1) (y : FVec Ideal S512x64x1 .f32) :
    Host.reduceAdd (select mk (fun i => shapeCast S512x64 y shapeCasts_S512x64x1_S512x64 i) (broadcastInDim S512x64 ![] bcast_S_S512x64 (id (constant S_ .f32 0x00000000#32))))
      (constant S_ .f32 0x00000000#32) reducesTo_S512x64_S_d0_1 h_S_ ix0
      = (∑ s : Fin 512, ∑ b : Fin 64, Scalar.select (mk (ix2 s b)) (y (ix3 s b 0)) 0 : EReal) := by
  pointwise
  exact Finset.sum_congr rfl fun x _ => Finset.sum_congr rfl fun y _ => congrArg (Scalar.select _ _) Ideal.ofBits_zero_f32

/-- The target's energy before the loop: the sum of the scores taken at the targets of the kept rows. -/
theorem entry_v10 : entryContents preI m c (Proc.devRef .tc main_v10) ix0
    = (∑ s : Fin 512, ∑ b : Fin 64, Scalar.select (m ((c.tc : Thread nD τ).loc main_arg2) (ix2 s b))
        (takeV (scV (m ((c.tc : Thread nD τ).loc main_arg0)) (m ((c.tc : Thread nD τ).loc main_arg3)) (m ((c.tc : Thread nD τ).loc main_arg4))) (wrapV (m ((c.tc : Thread nD τ).loc main_arg1))) (ix3 s b 0)) 0 : EReal) := by
  simp only [entryContents, afterL_cons, afterL_nil]
  after_reads_simp
  all_goals try simp -implicitDefEqProofs only [StableHlo.TRef.toBuf, StableHlo.TRef.ofBuf, cast_cast, cast_eq]
  clean_types
  exact energy_at (m ((c.tc : Thread nD τ).loc main_arg2)) (takeV (scV (m ((c.tc : Thread nD τ).loc main_arg0)) (m ((c.tc : Thread nD τ).loc main_arg3)) (m ((c.tc : Thread nD τ).loc main_arg4))) (wrapV (m ((c.tc : Thread nD τ).loc main_arg1))))

end Cert.Proof.CrfRef

end
-- ==== Proof.RefLoop.lean ====
/-
  One step of the reference's loop over real data.
-/
module

public import proofs.«01_k».proof.Proof.RefFrame
public import proofs.«01_k».proof.Proof.Data
public import Idealize.ShloMosaic.Lib.StableHlo.ReadAt
public import Idealize.ShloMosaic.Lib.ValueIdx

@[expose] public section

set_option maxRecDepth 8192

noncomputable section

open Idealize.ShloMosaic Idealize.ShloMosaic.TcCoe Idealize.SL.Sem

namespace Cert.Proof.CrfRef

open Cert.ReferenceIdeal Cert.ReferenceIdeal.Value Idealize.ShloMosaic.StableHlo
open Cert.Proof.Forward Cert.Proof.Reals Cert.Proof.Data

/-- The loop's counter as a number. -/
theorem ctr_toInt (k : ℕ) (hk : k < 511) : (Scf.iv 0#32 1#32 k).toInt = k := by
  have := (by decide +kernel : ∀ k : Fin 511, (Scf.iv 0#32 1#32 k.val).toInt = k.val) ⟨k, hk⟩
  exact this

/-- The reduction over the tags come from is over one axis. -/
theorem red : S64x32x32.Reduces [1] S64x32 := by decide

/-- Its operand's index. -/
theorem red_lift (b : Fin 64) (t f : Fin 32) : red.lift (ix2 b t) f = ix3 b f t := by
  funext a; refine Fin.ext ?_; fin_cases a <;> rfl

/-- The scores' slice at the counter. -/
theorem slice4_at (x : S511x64x32x32.Idx → EReal) (start : Fin 4 → Int) (h : S511x64x32x32.Slices (fun _ => 0) S1x64x32x32) (k : ℕ) (hk : k < 511)
    (h0 : start 0 = k) (h1 : start 1 = 0) (h2 : start 2 = 0) (h3 : start 3 = 0) (b : Fin 64) (f t : Fin 32) :
    Host.dynamicSlice S1x64x32x32 x start h (ix4 0 b f t) = x (ix4 ⟨k, hk⟩ b f t) := by
  have e0 := Host.clampedStart_of_le (s := S511x64x32x32) (t := S1x64x32x32) rfl start 0 k h0 (by show k + 1 ≤ 511; omega)
  have e1 := Host.clampedStart_of_le (s := S511x64x32x32) (t := S1x64x32x32) rfl start 1 0 h1 (by decide)
  have e2 := Host.clampedStart_of_le (s := S511x64x32x32) (t := S1x64x32x32) rfl start 2 0 h2 (by decide)
  have e3 := Host.clampedStart_of_le (s := S511x64x32x32) (t := S1x64x32x32) rfl start 3 0 h3 (by decide)
  rw [Host.dynamicSlice_apply]
  refine congrArg x (funext fun a => Fin.ext ?_)
  fin_cases a
  · show Host.clampedStart S511x64x32x32 S1x64x32x32 rfl start 0 + 0 = k
    omega
  · show Host.clampedStart S511x64x32x32 S1x64x32x32 rfl start 1 + b.val = b.val
    omega
  · show Host.clampedStart S511x64x32x32 S1x64x32x32 rfl start 2 + f.val = f.val
    omega
  · show Host.clampedStart S511x64x32x32 S1x64x32x32 rfl start 3 + t.val = t.val
    omega

/-- The mask's slice at the counter. -/
theorem slice2_at (x : S511x64.Idx → BitVec 1) (start : Fin 2 → Int) (h : S511x64.Slices (fun _ => 0) S1x64) (k : ℕ) (hk : k < 511)
    (h0 : start 0 = k) (h1 : start 1 = 0) (b : Fin 64) :
    Host.dynamicSlice S1x64 x start h (ix2 0 b) = x (ix2 ⟨k, hk⟩ b) := by
  have e0 := Host.clampedStart_of_le (s := S511x64) (t := S1x64) rfl start 0 k h0 (by show k + 1 ≤ 511; omega)
  have e1 := Host.clampedStart_of_le (s := S511x64) (t := S1x64) rfl start 1 0 h1 (by decide)
  rw [Host.dynamicSlice_apply]
  refine congrArg x (funext fun a => Fin.ext ?_)
  fin_cases a
  · show Host.clampedStart S511x64 S1x64 rfl start 0 + 0 = k
    omega
  · show Host.clampedStart S511x64 S1x64 rfl start 1 + b.val = b.val
    omega

/-- The candidates' sums at an index, their slice a value already read. -/
theorem cand_at (y : FVec Ideal S1x64x32x32 .f32) (p : FVec Ideal S64x32 .f32) (b : Fin 64) (f t : Fin 32) :
    addf (shapeCast S64x32x32 y Gen.shapeCasts_S1x64x32x32_S64x32x32) (broadcastInDim S64x32x32 ![0, 1, 2] Gen.bcast_S64x32x1_S64x32x32_0_1_2 (broadcastInDim S64x32x1 ![0, 1] Gen.bcast_S64x32_S64x32x1_0_1 p)) (ix3 b f t)
      = (y (ix4 0 b f t) + p (ix2 b f) : EReal) := by
  pointwise

/-- The new logarithms at an index, the candidates and their greatest given. -/
theorem next_at (z : FVec Ideal S64x32x32 .f32) (mz p : FVec Ideal S64x32 .f32) (k : IVec S1x64 1) (b : Fin 64) (t : Fin 32) :
    (select (broadcastInDim S64x32 ![0, 1] Gen.bcast_S64x1_S64x32_0_1 (broadcastInDim S64x1 ![0] Gen.bcast_S64_S64x1_0 (shapeCast S64 k Gen.shapeCasts_S1x64_S64)))
      (addf (Host.log (Host.reduceAdd (Host.exp (subf z (broadcastInDim S64x32x32 ![0, 1, 2] Gen.bcast_S64x1x32_S64x32x32_0_1_2 (broadcastInDim S64x1x32 ![0, 2] Gen.bcast_S64x32_S64x1x32_0_2 mz))))
        (constant S_ .f32 0x00000000#32) Gen.reducesTo_S64x32x32_S64x32_d1 Gen.h_S_)) mz) p) (ix2 b t)
      = Scalar.select (k (ix2 0 b)) (Ideal.log (∑ f : Fin 32, Ideal.exp (z (ix3 b f t) - mz (ix2 b t))) + mz (ix2 b t) : EReal) (p (ix2 b t)) := by
  pointwise

/-- A candidate at an index: the score and the partition. -/
theorem v27_at (V0 : Valuation τ sig (Elt Ideal)) (k : ℕ) (hk : k < 511) (hc : V0 (Proc.devRef .tc main_v17_2) = fun _ => Scf.iv 0#32 1#32 k) (b : Fin 64) (f t : Fin 32)
    {U P : ℝ} (hu : V0 (Proc.devRef .tc main_v17_0) (ix4 ⟨k, hk⟩ b f t) = ((U : ℝ) : EReal)) (hp : V0 (Proc.devRef .tc main_v17_3) (ix2 b f) = ((P : ℝ) : EReal)) :
    res_main_while0b_v27 V0 (ix3 b f t) = ((U + P : ℝ) : EReal) := by
  rw [EReal.coe_add, ← hu, ← hp]
  unfold res_main_while0b_v27
  rw [hc]
  refine (cand_at _ (V0 (Proc.devRef .tc main_v17_3)) b f t).trans (congrArg (· + _) ?_)
  exact slice4_at (V0 (Proc.devRef .tc main_v17_0)) _ _ k hk (ctr_toInt k hk) rfl rfl rfl b f t

/-- The greatest candidate at an index. -/
theorem reduce_top (z : FVec Ideal S64x32x32 .f32) (b : Fin 64) (t : Fin 32) :
    Host.reduce FloatOps.maximumf z (constant S_ .f32 0xFF800000#32) Gen.reducesTo_S64x32x32_S64x32_d1 Gen.h_S_ (ix2 b t)
      = ((Finset.univ : Finset (Fin 32)).fold max (⊥ : EReal) (z ∘ red.lift (ix2 b t)) : EReal) := by
  have h := Host.reduce_eq_fold_single (max : EReal → EReal → EReal) z (constant (F := Ideal) S_ .f32 0xFF800000#32) Gen.reducesTo_S64x32x32_S64x32_d1 red Gen.h_S_ (ix2 b t)
  rw [show constant (F := Ideal) S_ .f32 0xFF800000#32 (Shape.Idx.first Gen.h_S_) = (⊥ : EReal) from ofBits_neg_inf] at h
  exact h

/-- The greatest candidate, of reals. -/
theorem v28_at (V0 : Valuation τ sig (Elt Ideal)) (b : Fin 64) (t : Fin 32) {z : Fin 32 → ℝ} (hz : ∀ f, res_main_while0b_v27 V0 (ix3 b f t) = ((z f : ℝ) : EReal)) :
    res_main_while0b_v28 V0 (ix2 b t) = ((top (n := 31) z : ℝ) : EReal) := by
  unfold res_main_while0b_v28
  refine (reduce_top (res_main_while0b_v27 V0) b t).trans ?_
  have e : (res_main_while0b_v27 V0 ∘ red.lift (ix2 b t) : Fin 32 → EReal) = fun f => ((z f : ℝ) : EReal) :=
    funext fun f => (congrArg (res_main_while0b_v27 V0) (red_lift b t f)).trans (hz f)
  exact (congrArg (fun z : Fin 32 → EReal => (Finset.univ : Finset (Fin 32)).fold max (⊥ : EReal) z) e).trans (fold_max_coe (n := 31) z)

/-- One step of the loop at an index: the logarithm of the candidates' exponentials' sum where kept, else the partition. -/
theorem step_at (V0 : Valuation τ sig (Elt Ideal)) (k : ℕ) (hk : k < 511) (hc : V0 (Proc.devRef .tc main_v17_2) = fun _ => Scf.iv 0#32 1#32 k) (b : Fin 64) (t : Fin 32)
    {z : Fin 32 → ℝ} (hz : ∀ f, res_main_while0b_v27 V0 (ix3 b f t) = ((z f : ℝ) : EReal)) {P : ℝ} (hp : V0 (Proc.devRef .tc main_v17_3) (ix2 b t) = ((P : ℝ) : EReal)) :
    step_main_v17_3 V0 (ix2 b t) = ((if V0 (Proc.devRef .tc main_v17_1) (ix2 ⟨k, hk⟩ b) = 1#1 then Real.log (∑ f, Real.exp (z f)) else P : ℝ) : EReal) := by
  have hm := v28_at V0 b t hz
  unfold step_main_v17_3
  rw [hc, id]
  refine (next_at (res_main_while0b_v27 V0) (res_main_while0b_v28 V0) (V0 (Proc.devRef .tc main_v17_3)) _ b t).trans ?_
  rw [slice2_at (V0 (Proc.devRef .tc main_v17_1)) _ _ k hk (ctr_toInt k hk) rfl b, hm, hp]
  simp only [hz]
  have e : (Ideal.log (∑ f : Fin 32, Ideal.exp (((z f : ℝ) : EReal) - ((top (n := 31) z : ℝ) : EReal))) + ((top (n := 31) z : ℝ) : EReal)) = ((Real.log (∑ f, Real.exp (z f)) : ℝ) : EReal) := by
    have e1 : ∀ f : Fin 32, Ideal.exp (((z f : ℝ) : EReal) - ((top (n := 31) z : ℝ) : EReal)) = ((Real.exp (z f - top (n := 31) z) : ℝ) : EReal) := fun f => by
      rw [← EReal.coe_sub]; rfl
    simp only [e1]
    have hpos : 0 < ∑ f : Fin 32, Real.exp (z f - top (n := 31) z) := Finset.sum_pos (fun f _ => Real.exp_pos _) Finset.univ_nonempty
    rw [sum_coe, log_pos hpos, ← EReal.coe_add]
    refine congrArg _ ?_
    have e2 : ∑ f : Fin 32, Real.exp (z f) = (∑ f : Fin 32, Real.exp (z f - top (n := 31) z)) * Real.exp (top (n := 31) z) := by
      rw [Finset.sum_mul]
      exact Finset.sum_congr rfl fun f _ => by rw [← Real.exp_add, sub_add_cancel]
    rw [e2, Real.log_mul hpos.ne' (Real.exp_pos _).ne', Real.log_exp]
  rw [e, Scalar.select]
  split <;> rename_i h
  · exact congrArg _ (if_pos h).symm
  · exact congrArg _ (if_neg h).symm

end Cert.Proof.CrfRef

end
-- ==== Proof.RefValue.lean ====
/-
  What the reference returns, over real data: the loss.
-/
module

public import proofs.«01_k».proof.Proof.RefPre
public import proofs.«01_k».proof.Proof.RefLoop

@[expose] public section

set_option maxRecDepth 8192

noncomputable section

open Idealize.ShloMosaic Idealize.ShloMosaic.TcCoe Idealize.SL.Sem

namespace Cert.Proof.CrfRef

open Cert.ReferenceIdeal Cert.ReferenceIdeal.Gen Cert.ReferenceIdeal.Value Idealize.ShloMosaic.StableHlo
open Cert.Proof.Forward Cert.Proof.Reals Cert.Proof.Data

/-- A score of real data is a real. -/
theorem score_coe {D : Args} {a0 : FVec Ideal S512x64x768 .f32} {a1 : IVec S512x64x1 32} {a2 : IVec S512x64 1} {a3 : FVec Ideal S1024x768 .f32} {a4 : FVec Ideal S1024 .f32}
    (hD : D.Is a0 a1 a2 a3 a4) (s : Fin 512) (b : Fin 64) (j : Fin 1024) :
    (∑ k : Fin 768, @HMul.hMul EReal EReal EReal _ (a0 (ix3 s b k)) (a3 (ix2 j k))) + (a4 (ix1 j) : EReal) = ((D.score s b j : ℝ) : EReal) := by
  have e : ∀ k : Fin 768, @HMul.hMul EReal EReal EReal _ (a0 (ix3 s b k)) (a3 (ix2 j k)) = ((D.X s b k * D.W j k : ℝ) : EReal) := fun k => by
    rw [hD.x, hD.w, EReal.coe_mul]
  rw [Finset.sum_congr rfl fun k _ => e k, sum_coe, hD.b, ← EReal.coe_add]
  rfl

/-- The target's energy of real data. -/
theorem gold_coe {D : Args} {a0 : FVec Ideal S512x64x768 .f32} {a1 : IVec S512x64x1 32} {a2 : IVec S512x64 1} {a3 : FVec Ideal S1024x768 .f32} {a4 : FVec Ideal S1024 .f32}
    (hD : D.Is a0 a1 a2 a3 a4) :
    (∑ s : Fin 512, ∑ b : Fin 64, Scalar.select (a2 (ix2 s b)) (takeV (scV a0 a3 a4) (wrapV a1) (ix3 s b 0)) 0 : EReal) = ((D.gold : ℝ) : EReal) := by
  have e (s : Fin 512) (b : Fin 64) : (Scalar.select (a2 (ix2 s b)) (takeV (scV a0 a3 a4) (wrapV a1) (ix3 s b 0)) 0 : EReal) = ((D.goldAt s b : ℝ) : EReal) := by
    rw [takeV_at _ _ D.tg (fun s b => wrapV_at a1 s b (D.tg s b) (hD.tg s b)), scV_eq, rawV_at]
    refine (congrArg (fun z : EReal => Scalar.select (a2 (ix2 s b)) z 0) (score_coe hD s b (D.tg s b))).trans ?_
    have hk := hD.keep s b
    rw [Args.goldAt]
    show (if a2 (ix2 s b) = 1#1 then _ else _) = _
    by_cases h : D.keep s b = true
    · rw [if_pos h, if_pos (hk.mpr h)]
    · rw [if_neg h, if_neg (fun h' => h (hk.mp h'))]
      rfl
  refine (Finset.sum_congr rfl fun s _ => (Finset.sum_congr rfl fun b _ => e s b).trans (sum_coe Finset.univ fun b => D.goldAt s b)).trans ?_
  exact sum_coe Finset.univ _

variable (m : (ℓ : Loc nD τ sig) → Buf (Elt Ideal) ℓ) (c : Dev nD)
variable {D : Args} (hD : D.Is (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))

include hD

/-- The loop's candidates to be: the scores of the steps after the first. -/
theorem entry_u (k : ℕ) (hk : k < 511) (b : Fin 64) (f t : Fin 32) :
    entryContents preI m c (Proc.devRef .tc main_v17_0) (ix4 ⟨k, hk⟩ b f t) = ((D.u b (k + 1) f t : ℝ) : EReal) := by
  refine (entry_v17_0 m c ⟨k, hk⟩ b f t).trans ((score_coe hD _ _ _).trans (congrArg _ ?_))
  show _ = D.sc (k + 1) b (tagPair f t)
  rw [Args.sc, dif_pos (by omega)]
  congr 1
  · exact Fin.ext (Nat.add_comm 1 k)
  · exact Fin.ext (by show f.val * 32 + t.val = 32 * f.val + t.val; omega)

/-- The loop's mask. -/
theorem entry_mk (k : ℕ) (hk : k < 511) (b : Fin 64) :
    entryContents preI m c (Proc.devRef .tc main_v17_1) (ix2 ⟨k, hk⟩ b) = 1#1 ↔ D.mkN b (k + 1) = true := by
  rw [entry_v17_1, Args.mkN, dif_pos (by omega)]
  have := hD.keep ⟨k + 1, by omega⟩ b
  rw [← this]
  have e : (⟨1 + k, by omega⟩ : Fin 512) = ⟨k + 1, by omega⟩ := Fin.ext (Nat.add_comm 1 k)
  exact iff_of_eq (congrArg (fun s : Fin 512 => m ((c.tc : Thread nD τ).loc main_arg2) (ix2 s b) = 1#1) e)

/-- The partition before the loop: the first step's scores from the start tag. -/
theorem entry_p (b : Fin 64) (t : Fin 32) :
    entryContents preI m c (Proc.devRef .tc main_v17_3) (ix2 b t) = ((fwd (D.u b) (D.mkN b) 0 t : ℝ) : EReal) := by
  refine (entry_v17_3 m c b t).trans ((score_coe hD _ _ _).trans (congrArg _ ?_))
  show _ = D.sc 0 b (tagPair 30 t)
  rw [Args.sc, dif_pos (by omega)]
  rfl

/-- The partition after `k` steps of the loop is the forward recursion's. -/
theorem loop_p (k : ℕ) (hk : k ≤ 511) (b : Fin 64) (t : Fin 32) :
    atK m k c (Proc.devRef .tc main_v17_3) (ix2 b t) = ((fwd (D.u b) (D.mkN b) k t : ℝ) : EReal) := by
  induction k generalizing t with
  | zero => exact entry_p m c hD b t
  | succ k ih =>
    have hk : k < 511 := hk
    have ih := fun t => ih (by omega) t
    have e : atK m (k + 1) c (Proc.devRef .tc main_v17_3) = step_main_v17_3 (atK m k c) :=
      (trip_agree (atK m k c) main_v17_3 (by decide)).trans (STEP_main_v17_3 _)
    have hu : ∀ f, atK m k c (Proc.devRef .tc main_v17_0) (ix4 ⟨k, hk⟩ b f t) = ((D.u b (k + 1) f t : ℝ) : EReal) := fun f => by
      rw [atK_keep m c main_v17_0 (by decide +kernel)]
      exact entry_u m c hD k hk b f t
    have hm : atK m k c (Proc.devRef .tc main_v17_1) (ix2 ⟨k, hk⟩ b) = 1#1 ↔ D.mkN b (k + 1) = true := by
      rw [atK_keep m c main_v17_1 (by decide +kernel)]
      exact entry_mk m c hD k hk b
    rw [e]
    refine (step_at (atK m k c) k hk (atK_ctr m c k) b t (fun f => v27_at (atK m k c) k hk (atK_ctr m c k) b f t (hu f) (ih f)) (ih t)).trans ?_
    refine congrArg _ ?_
    show _ = if D.mkN b (k + 1) then _ else _
    by_cases h : D.mkN b (k + 1) = true
    · rw [if_pos h, if_pos (hm.mpr h)]
      exact congrArg Real.log (Finset.sum_congr rfl fun f _ => congrArg Real.exp (add_comm _ _))
    · rw [if_neg h, if_neg (fun h' => h (hm.mp h'))]

omit hD in
/-- The last arithmetic: the partition at the end tag over the rows, less the target's energy, by the number of rows. -/
theorem mean_at (P : Fin 64 → EReal) (G : EReal) {p : Fin 64 → ℝ} {g : ℝ} (hp : ∀ b, P b = ((p b : ℝ) : EReal)) (hg : G = ((g : ℝ) : EReal)) :
    Ideal.div (∑ b, P b - G) (Ideal.ofBits .f32 0x42800000#32) = ((((∑ b, p b) - g) / 64 : ℝ) : EReal) := by
  rw [Finset.sum_congr rfl fun b _ => hp b, sum_coe, hg, ofBits_64, ← EReal.coe_sub, div_real _ (by norm_num)]

/-- The reference's result is the loss. -/
theorem result : finalContents condOps preI bodyI postI 511 m c (Proc.devRef .tc main_v22) = fun _ => ((D.loss : ℝ) : EReal) := by
  funext i
  obtain rfl : i = ix0 := funext fun a => a.elim0
  have hc : ∀ r : Ref sig .tc, r ∉ condOps_W → after condOps (atK m 511 c) (Proc.devRef .tc r) = atK m 511 c (Proc.devRef .tc r) :=
    fun r hr => after_of_writes_sub _ _ condOps_writes hr
  have hP : ∀ b, after condOps (atK m 511 c) (Proc.devRef .tc main_v17_3) (ix2 b 31) = ((fwd (D.u b) (D.mkN b) 511 31 : ℝ) : EReal) := fun b => by
    rw [hc main_v17_3 (by decide +kernel)]
    exact loop_p m c hD 511 le_rfl b 31
  have hG : after condOps (atK m 511 c) (Proc.devRef .tc main_v10) ix0 = ((D.gold : ℝ) : EReal) := by
    rw [hc main_v10 (by decide +kernel), atK_keep m c main_v10 (by decide +kernel)]
    exact (entry_v10 m c).trans (gold_coe hD)
  simp only [finalContents, afterL_cons, afterL_nil]
  generalize after condOps (atK m 511 c) = Y at hP hG
  after_reads_at
  exact mean_at (fun b => Y (Proc.devRef .tc main_v17_3) (ix2 b 31)) (Y (Proc.devRef .tc main_v10) ix0) hP hG

end Cert.Proof.CrfRef

end
-- ==== Proof.Decode.lean ====
/-
  What the precondition says of the arguments: they are real data, the targets are columns, and the scores lie within
  the gaps.
-/
module

public import proofs.«01_k».proof.Pre_scores_in_range
public import proofs.«01_k».proof.Proof.Data
public import Idealize.ShloMosaic.Lib.ValueIdx
public import Idealize.ShloMosaic.Lib.ReduceAll

@[expose] public section

set_option maxRecDepth 8192

noncomputable section

namespace Cert.Proof.Decode

open Cert.Pre_scores_in_range Cert.Pre_scores_in_range.Facts
open Idealize.ShloMosaic
open Cert.Proof.Forward Cert.Proof.Reals Cert.Proof.Data

/-- A comparison that came out one, below. -/
theorem lt_of_cmp {x y : EReal} (h : Ideal.cmp .olt x y = 1#1) : x < y := by
  by_contra hn
  simp [Ideal.cmp, hn] at h

/-- A comparison that came out one, at most. -/
theorem le_of_cmp {x y : EReal} (h : Ideal.cmp .ole x y = 1#1) : x ≤ y := by
  by_contra hn
  simp [Ideal.cmp, hn] at h

/-- A number whose absolute value is below infinity is a real. -/
theorem real_of_abs {x : EReal} (h : max x (-x) < ⊤) : ((x.toReal : ℝ) : EReal) = x := by
  refine EReal.coe_toReal (fun e => ?_) (fun e => ?_)
  · rw [e] at h; exact absurd h (by simp)
  · rw [e] at h; exact absurd h (by simp)

/-- A word within the columns names a column. -/
theorem word_col {w : BitVec 32} (h : IntOp.andi (IntOp.cmpi .sge w 0#32) (IntOp.cmpi .slt w 1024#32) = 1#1) :
    ∃ T : Fin 1024, w = BitVec.ofNat 32 T.val := by
  obtain ⟨h0, h1⟩ := IntOp.andi_eq_one.1 h
  have h0 := IntOp.cmpi_sge.1 h0
  have h1 := IntOp.cmpi_slt.1 h1
  have e0 : (0#32 : BitVec 32).toInt = 0 := by decide
  have e1 : (1024#32 : BitVec 32).toInt = 1024 := by decide
  rw [e0] at h0; rw [e1] at h1
  have hn : w.toNat < 1024 := by
    have := BitVec.toInt_eq_toNat_cond w
    have := w.isLt
    split at * <;> omega
  exact ⟨⟨w.toNat, hn⟩, BitVec.eq_of_toNat_eq (by rw [BitVec.toNat_ofNat]; exact (Nat.mod_eq_of_lt w.isLt).symm)⟩

/-- The greatest of a row is the greatest of its tags' greatest. -/
theorem top_tags (x : Fin 1024 → ℝ) : top (n := 31) (fun f => top (n := 31) (fun t => x (tagPair f t))) = top (n := 1023) x := by
  apply le_antisymm
  · obtain ⟨f, hf⟩ := top_mem (n := 31) (fun f => top (n := 31) (fun t => x (tagPair f t)))
    obtain ⟨t, ht⟩ := top_mem (n := 31) (fun t => x (tagPair f t))
    rw [← hf]
    show top (n := 31) (fun t => x (tagPair f t)) ≤ _
    rw [← ht]
    exact le_top (n := 1023) x _
  · obtain ⟨j, hj⟩ := top_mem (n := 1023) x
    rw [← hj]
    have e : j = tagPair ⟨j.val / 32, by omega⟩ ⟨j.val % 32, by omega⟩ := Fin.ext (by show j.val = 32 * (j.val / 32) + j.val % 32; omega)
    refine le_trans ?_ (le_top (n := 31) (fun f => top (n := 31) (fun t => x (tagPair f t))) ⟨j.val / 32, by omega⟩)
    refine le_trans (le_of_eq (congrArg x e)) (le_top (n := 31) (fun t => x (tagPair ⟨j.val / 32, by omega⟩ t)) ⟨j.val % 32, by omega⟩)

variable [Facts]

/-- The precondition's scores. -/
def scP (x : FVec Ideal S512x64x768 .f32) (w : FVec Ideal S1024x768 .f32) (b : FVec Ideal S1024 .f32) : FVec Ideal S512x64x1024 .f32 :=
  addf (Host.dotGeneral dot_S512x64x768_S768x1024_S512x64x1024_2_0_01_1_n_n none x (transpose S768x1024 [1, 0] w transposes_S1024x768_S768x1024_1_0))
    (broadcastInDim S512x64x1024 ![0, 1, 2] bcast_S1x1x1024_S512x64x1024_0_1_2 (broadcastInDim S1x1x1024 ![2] bcast_S1024_S1x1x1024_2 b))

/-- The precondition's scores at an index. -/
theorem scP_at (x : FVec Ideal S512x64x768 .f32) (w : FVec Ideal S1024x768 .f32) (bb : FVec Ideal S1024 .f32) (s : Fin 512) (b : Fin 64) (j : Fin 1024) :
    scP x w bb (ix3 s b j) = ((∑ k : Fin 768, x (ix3 s b k) * w (ix2 j k)) + bb (ix1 j) : EReal) := by
  unfold scP
  pointwise

/-- A row of scores laid out by tag. -/
def layP (z : FVec Ideal S512x64x1024 .f32) : FVec Ideal S512x64x32x32 .f32 := shapeCast S512x64x32x32 z shapeCasts_S512x64x1024_S512x64x32x32

/-- The scores laid out by tag, at an index. -/
theorem layP_at (z : FVec Ideal S512x64x1024 .f32) (s : Fin 512) (b : Fin 64) (f t : Fin 32) :
    layP z (ix4 s b f t) = z (ix3 s b (tagPair f t)) := by
  have e : layP z (ix4 s b f t) = z (ix3 s b ⟨f.val * 32 + t.val, by omega⟩) := by
    unfold layP
    pointwise
  rw [e]
  exact congrArg z (congrArg (ix3 s b) (Fin.ext (by show f.val * 32 + t.val = 32 * f.val + t.val; omega)))

/-- The greatest over the tags gone to. -/
def maxT (z : FVec Ideal S512x64x32x32 .f32) : FVec Ideal S512x64x32 .f32 :=
  Host.reduce FloatOps.maximumf z (constant S_ .f32 0xFF800000#32) reducesTo_S512x64x32x32_S512x64x32_d3 h_S_
/-- The greatest over the tags come from. -/
def maxF (z : FVec Ideal S512x64x32 .f32) : FVec Ideal S512x64 .f32 :=
  Host.reduce FloatOps.maximumf z (constant S_ .f32 0xFF800000#32) reducesTo_S512x64x32_S512x64_d2 h_S_

/-- The reduction over the tags gone to is over one axis. -/
theorem redT : S512x64x32x32.Reduces [3] S512x64x32 := by decide
/-- The reduction over the tags come from is over one axis. -/
theorem redF : S512x64x32.Reduces [2] S512x64 := by decide

/-- The greatest over the tags gone to, of reals. -/
theorem maxT_at (z : FVec Ideal S512x64x32x32 .f32) (s : Fin 512) (b : Fin 64) (f : Fin 32) {y : Fin 32 → ℝ} (h : ∀ t, z (ix4 s b f t) = ((y t : ℝ) : EReal)) :
    maxT z (ix3 s b f) = ((top (n := 31) y : ℝ) : EReal) := by
  have e := Host.reduce_eq_fold_single (max : EReal → EReal → EReal) z (constant (F := Ideal) S_ .f32 0xFF800000#32) reducesTo_S512x64x32x32_S512x64x32_d3 redT h_S_ (ix3 s b f)
  rw [show constant (F := Ideal) S_ .f32 0xFF800000#32 (Shape.Idx.first h_S_) = (⊥ : EReal) from ofBits_neg_inf] at e
  have e2 : (z ∘ redT.lift (ix3 s b f) : Fin 32 → EReal) = fun t => ((y t : ℝ) : EReal) := funext fun t =>
    (congrArg z (show redT.lift (ix3 s b f) t = ix4 s b f t by funext a; refine Fin.ext ?_; fin_cases a <;> rfl)).trans (h t)
  exact e.trans ((congrArg (fun z : Fin 32 → EReal => (Finset.univ : Finset (Fin 32)).fold max (⊥ : EReal) z) e2).trans (fold_max_coe (n := 31) y))

/-- The greatest over the tags come from, of reals. -/
theorem maxF_at (z : FVec Ideal S512x64x32 .f32) (s : Fin 512) (b : Fin 64) {y : Fin 32 → ℝ} (h : ∀ f, z (ix3 s b f) = ((y f : ℝ) : EReal)) :
    maxF z (ix2 s b) = ((top (n := 31) y : ℝ) : EReal) := by
  have e := Host.reduce_eq_fold_single (max : EReal → EReal → EReal) z (constant (F := Ideal) S_ .f32 0xFF800000#32) reducesTo_S512x64x32_S512x64_d2 redF h_S_ (ix2 s b)
  rw [show constant (F := Ideal) S_ .f32 0xFF800000#32 (Shape.Idx.first h_S_) = (⊥ : EReal) from ofBits_neg_inf] at e
  have e2 : (z ∘ redF.lift (ix2 s b) : Fin 32 → EReal) = fun t => ((y t : ℝ) : EReal) := funext fun t =>
    (congrArg z (show redF.lift (ix2 s b) t = ix3 s b t by funext a; refine Fin.ext ?_; fin_cases a <;> rfl)).trans (h t)
  exact e.trans ((congrArg (fun z : Fin 32 → EReal => (Finset.univ : Finset (Fin 32)).fold max (⊥ : EReal) z) e2).trans (fold_max_coe (n := 31) y))

/-- The first gap's comparison. -/
def nearP (mt : FVec Ideal S512x64x32 .f32) (mf : FVec Ideal S512x64 .f32) : IVec S512x64x32 1 :=
  cmpf .ole (subf (broadcastInDim S512x64x32 ![0, 1, 2] bcast_S512x64x1_S512x64x32_0_1_2 (broadcastInDim S512x64x1 ![0, 1] bcast_S512x64_S512x64x1_0_1 mf)) mt)
    (broadcastInDim S512x64x32 ![] bcast_S_S512x64x32 (constant S_ .f32 0x40A00000#32))

/-- The first gap's comparison at an index. -/
theorem nearP_at (mt : FVec Ideal S512x64x32 .f32) (mf : FVec Ideal S512x64 .f32) (s : Fin 512) (b : Fin 64) (f : Fin 32) :
    nearP mt mf (ix3 s b f) = Ideal.cmp .ole ((mf (ix2 s b) : EReal) - (mt (ix3 s b f) : EReal)) (Ideal.ofBits .f32 0x40A00000#32) := by
  unfold nearP
  pointwise

/-- The second gap's comparison. -/
def lastP (z : FVec Ideal S512x64x32x32 .f32) (mf : FVec Ideal S512x64 .f32) : IVec S512x64x32 1 :=
  cmpf .ole (subf (broadcastInDim S512x64x32 ![0, 1, 2] bcast_S512x64x1_S512x64x32_0_1_2 (broadcastInDim S512x64x1 ![0, 1] bcast_S512x64_S512x64x1_0_1 mf))
      (shapeCast S512x64x32 (extractStridedSlice S512x64x32x1 ![0, 0, 0, 31] z slices_S512x64x32x32_S512x64x32x1_0_0_0_31) shapeCasts_S512x64x32x1_S512x64x32))
    (broadcastInDim S512x64x32 ![] bcast_S_S512x64x32 (constant S_ .f32 0x42A00000#32))

/-- The second gap's comparison at an index. -/
theorem lastP_at (z : FVec Ideal S512x64x32x32 .f32) (mf : FVec Ideal S512x64 .f32) (s : Fin 512) (b : Fin 64) (f : Fin 32) :
    lastP z mf (ix3 s b f) = Ideal.cmp .ole ((mf (ix2 s b) : EReal) - (z (ix4 s b f 31) : EReal)) (Ideal.ofBits .f32 0x42A00000#32) := by
  unfold lastP
  pointwise

/-- The precondition's conjuncts, each at every index. -/
theorem parts {a0 : FVec Ideal S512x64x768 .f32} {a1 : IVec S512x64x1 32} {a2 : IVec S512x64 1} {a3 : FVec Ideal S1024x768 .f32} {a4 : FVec Ideal S1024 .f32}
    (h : fn (F := Ideal) a0 a1 a2 a3 a4 = fun _ => 1#1) :
    (∀ i, max (a0 i : EReal) (-(a0 i : EReal)) < ⊤) ∧ (∀ i, max (a3 i : EReal) (-(a3 i : EReal)) < ⊤) ∧ (∀ i, max (a4 i : EReal) (-(a4 i : EReal)) < ⊤)
      ∧ (∀ i, IntOp.andi (IntOp.cmpi .sge (a1 i) 0#32) (IntOp.cmpi .slt (a1 i) 1024#32) = 1#1)
      ∧ (∀ i, nearP (maxT (layP (scP a0 a3 a4))) (maxF (maxT (layP (scP a0 a3 a4)))) i = 1#1)
      ∧ (∀ i, lastP (layP (scP a0 a3 a4)) (maxF (maxT (layP (scP a0 a3 a4)))) i = 1#1) := by
  have hs : Subsingleton S_.Idx := ⟨fun i j => funext fun a => a.elim0⟩
  have h0 := congrFun h ix0
  unfold fn fn_part1 fn_part2 at h0
  dsimp only at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  have fin {x : EReal} (h : Ideal.cmp .olt (max x (-x)) (Ideal.ofBits .f32 0x7F800000#32) = 1#1) : max x (-x) < ⊤ := by
    have := lt_of_cmp h
    rwa [ofBits_inf] at this
  refine ⟨fun i => fin (Host.reduce_andi_all _ _ _ _ _ h1 i), fun i => fin (Host.reduce_andi_all _ _ _ _ _ h2 i), fun i => fin (Host.reduce_andi_all _ _ _ _ _ h3 i),
    fun i => Host.reduce_andi_all _ _ _ _ _ h4 i, fun i => Host.reduce_andi_all _ _ _ _ _ h5 i, fun i => Host.reduce_andi_all _ _ _ _ _ h6 i⟩

/-- Arguments under the precondition are real data within the gaps. -/
theorem decode {a0 : FVec Ideal S512x64x768 .f32} {a1 : IVec S512x64x1 32} {a2 : IVec S512x64 1} {a3 : FVec Ideal S1024x768 .f32} {a4 : FVec Ideal S1024 .f32}
    (h : fn (F := Ideal) a0 a1 a2 a3 a4 = fun _ => 1#1) : ∃ D : Args, D.Is a0 a1 a2 a3 a4 ∧ D.InRange := by
  obtain ⟨h0, h3, h4, h1, h5, h6⟩ := parts h
  have hT := fun (s : Fin 512) (b : Fin 64) => word_col (h1 (ix3 s b 0))
  choose T hT using hT
  let D : Args := ⟨fun s b k => (a0 (ix3 s b k) : EReal).toReal, fun j k => (a3 (ix2 j k) : EReal).toReal, fun j => (a4 (ix1 j) : EReal).toReal, T,
    fun s b => decide (a2 (ix2 s b) = 1#1)⟩
  have hD : D.Is a0 a1 a2 a3 a4 := ⟨fun s b k => (real_of_abs (h0 _)).symm, hT, fun s b => by show _ ↔ decide _ = true; rw [decide_eq_true_iff],
    fun j k => (real_of_abs (h3 _)).symm, fun j => (real_of_abs (h4 _)).symm⟩
  refine ⟨D, hD, fun b n hn => ?_⟩
  have hsc : ∀ j, scP a0 a3 a4 (ix3 ⟨n, by omega⟩ b j) = ((D.sc n b j : ℝ) : EReal) := fun j => by
    rw [scP_at]
    have e : ∀ k : Fin 768, @HMul.hMul EReal EReal EReal _ (a0 (ix3 ⟨n, by omega⟩ b k)) (a3 (ix2 j k)) = ((D.X ⟨n, by omega⟩ b k * D.W j k : ℝ) : EReal) := fun k => by
      rw [hD.x, hD.w, EReal.coe_mul]
    rw [Finset.sum_congr rfl fun k _ => e k, sum_coe, hD.b, ← EReal.coe_add, Args.sc, dif_pos (by omega)]
    rfl
  have hu : ∀ f t, layP (scP a0 a3 a4) (ix4 ⟨n, by omega⟩ b f t) = ((D.u b n f t : ℝ) : EReal) := fun f t => (layP_at _ _ b f t).trans (hsc _)
  have hmt := fun f => maxT_at (layP (scP a0 a3 a4)) ⟨n, by omega⟩ b f (hu f)
  have hmf : maxF (maxT (layP (scP a0 a3 a4))) (ix2 ⟨n, by omega⟩ b) = ((D.mx b n : ℝ) : EReal) :=
    (maxF_at _ _ b hmt).trans (congrArg _ (top_tags (D.sc n b)))
  refine ⟨fun f t => le_top (n := 1023) (D.sc n b) _, fun f => ?_, fun f => ?_⟩
  · have hh := h5 (ix3 ⟨n, by omega⟩ b f)
    rw [nearP_at, hmf, hmt] at hh
    have hh := le_of_cmp hh
    rw [ofBits_5, ← EReal.coe_sub, EReal.coe_le_coe_iff] at hh
    obtain ⟨t, ht⟩ := top_mem (n := 31) (fun t => D.u b n f t)
    refine ⟨t, ?_⟩
    have ht : D.u b n f t = top (n := 31) (fun t => D.u b n f t) := ht
    have e : top (n := 31) (D.u b n f) = D.u b n f t := ht.symm
    linarith
  · have hh := h6 (ix3 ⟨n, by omega⟩ b f)
    rw [lastP_at, hmf, hu] at hh
    have hh := le_of_cmp hh
    rw [ofBits_80, ← EReal.coe_sub, EReal.coe_le_coe_iff] at hh
    linarith

end Cert.Proof.Decode

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_scores_in_range
public import proofs.«01_k».proof.Proof.Gen.ReferenceIdeal.Run
public import proofs.«01_k».proof.Proof.Launch
public import proofs.«01_k».proof.Proof.KernelValue
public import proofs.«01_k».proof.Proof.RefValue
public import proofs.«01_k».proof.Proof.Decode

@[expose] public section

noncomputable section

namespace Cert.Proof

open Idealize.ShloMosaic Idealize.ShloMosaic.TcCoe Idealize.SL.Sem

/-- The frame of the kernel's program, stated of its ideal text read at bits: the two programs are the same text. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The kernel's frame at bits, of the ideal text. -/
theorem frameAtBits : FrameAtBits := fun m g _ => Crf.frame (F := Bits) m g

/-- The kernel's frame claim is that statement: the printed programs unfold to the same program. -/
theorem quiescent_eq : Cert.quiescent_Kernel (hKernel := Cert.Kernel.Gen.facts) = FrameAtBits := by chain_rfl

/-- The kernel's program runs and leaves its arguments unchanged, with every counter zero. -/
theorem frame_p : Cert.quiescent_Kernel (hKernel := Cert.Kernel.Gen.facts) := quiescent_eq.mpr frameAtBits

/-- The kernel's program at the extended reals runs and leaves its arguments unchanged, with every counter zero. -/
theorem frame_pi : Cert.quiescent_KernelIdeal (hKernelIdeal := Cert.KernelIdeal.Gen.facts) := fun m g _ => Crf.frame (F := Ideal) m g

/-- The reference at the extended reals runs and leaves its arguments unchanged; it has no counters. -/
theorem frame_ri : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (CrfRef.run_args (F := Ideal) m g)

/-- The kernel's result is the reference's at the extended reals, on arguments under the precondition: both are the loss
    of the real data the arguments hold. -/
theorem algebraic : Cert.algebraic_KernelIdeal_ReferenceIdeal_pre_scores_in_range (hKernelIdeal := Cert.KernelIdeal.Gen.facts)
    (hReferenceIdeal := Cert.ReferenceIdeal.Gen.facts) (hPre_scores_in_range := Cert.Pre_scores_in_range.Gen.facts) := by
  intro m g m' g' hpre hagree
  have hd := fun c => Decode.decode (hpre c)
  choose D hD hr using hd
  have hD' : ∀ c, (D c).Is (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) := fun c => by
    obtain ⟨e0, e1, e2, e3, e4⟩ := hagree c
    rw [e0, e1, e2, e3, e4]
    exact hD c
  refine ⟨fun c _ => (((D c).loss : ℝ) : EReal), ?_, ?_⟩
  · refine (θ_run Cert.KernelIdeal.defs _ _).mono (fun r h c => ⟨(h c).1.trans ?_, (h c).2⟩) (Crf.run_value m g)
    exact funext fun _ => Crf.lossAt_real m c (hD c) (hr c)
  · exact (θ_run Cert.ReferenceIdeal.defs _ _).mono (fun r h c => ⟨(h c).1.trans (CrfRef.result m' c (hD' c)), (h c).2⟩) (CrfRef.run_args (F := Ideal) m' g')

/-- Every claim of `Cert.Claim`. -/
theorem claim : Cert.Claim := ⟨Cert.Kernel.Gen.facts, Cert.KernelIdeal.Gen.facts, Cert.ReferenceIdeal.Gen.facts, Cert.Pre_scores_in_range.Gen.facts,
  frame_p, frame_pi, fun m g _ => frame_pi m g trivial, frame_ri, fun m g _ => frame_ri m g trivial, trivial, algebraic⟩

end Cert.Proof

end
